-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x3072x8192 : Shape := ⟨3, ![1, 3072, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S3072x64x128 : Shape := ⟨3, ![3072, 64, 128]⟩
abbrev S_ : Shape := ⟨0, ![]⟩
abbrev S3072x64 : Shape := ⟨2, ![3072, 64]⟩

class Facts : Prop where
  bitsLt_bf16_f32 : FTy.bits .bf16 < FTy.bits .f32
  shapeCasts_S1x3072x8192_S3072x64x128 : S1x3072x8192.ShapeCasts S3072x64x128
  reducesTo_S3072x64x128_S3072x64_d2 : S3072x64x128.ReducesTo [2] S3072x64
  h_S_ : 0 < S_.numel
  bcast_S_S3072x64 : S_.BroadcastsInDim S3072x64 (![] : Fin 0 → Fin S3072x64.rank)
  reducesTo_S3072x64_S_d0_1 : S3072x64.ReducesTo [0, 1] S_

variable [Facts]

def fn {F : FTy → Type} [FloatOps F] (main_arg0 : FVec F S1x3072x8192 .bf16) (main_arg1 : FVec F S2112x8192 .fp8e4m3) (main_arg2 : FVec F S17x64 .f32) (main_arg3 : FVec F S1536 .bf16) (main_arg4 : FVec F S512 .bf16) : IVec S_ 1 :=
  let main_v0 : FVec F S1x3072x8192 .f32 := (extf .f32 · bitsLt_bf16_f32) main_arg0
  let main_v1 : FVec F S1x3072x8192 .f32 := Host.absf main_v0
  let main_v2 : FVec F S3072x64x128 .f32 := shapeCast S3072x64x128 main_v1 shapeCasts_S1x3072x8192_S3072x64x128
  let main_cst : FVec F S_ .f32 := constant S_ .f32 0xFF800000#32
  let main_v3 : FVec F S3072x64 .f32 := (fun x v => Host.reduce FloatOps.maximumf x v reducesTo_S3072x64x128_S3072x64_d2 h_S_) main_v2 main_cst
  let main_cst_0 : FVec F S_ .f32 := constant S_ .f32 0x7F7F0000#32
  let main_v4 : FVec F S3072x64 .f32 := broadcastInDim S3072x64 ![] bcast_S_S3072x64 main_cst_0
  let main_v5 : IVec S3072x64 1 := cmpf .ole main_v3 main_v4
  let main_cst_1 : FVec F S_ .f32 := constant S_ .f32 0x00000000#32
  let main_v6 : FVec F S3072x64 .f32 := broadcastInDim S3072x64 ![] bcast_S_S3072x64 main_cst_1
  let main_v7 : IVec S3072x64 1 := cmpf .oeq main_v3 main_v6
  let main_cst_2 : FVec F S_ .f32 := constant S_ .f32 0x3B124925#32
  let main_v8 : FVec F S3072x64 .f32 := broadcastInDim S3072x64 ![] bcast_S_S3072x64 main_cst_2
  let main_v9 : FVec F S3072x64 .f32 := mulf main_v3 main_v8
  let main_cst_3 : FVec F S_ .f32 := constant S_ .f32 0x00800000#32
  let main_v10 : FVec F S3072x64 .f32 := broadcastInDim S3072x64 ![] bcast_S_S3072x64 main_cst_3
  let main_v11 : IVec S3072x64 1 := cmpf .oge main_v9 main_v10
  let main_v12 : IVec S3072x64 1 := ori main_v7 main_v11
  let main_v13 : IVec S3072x64 1 := andi main_v5 main_v12
  let main_c : IVec S_ 1 := constantI S_ 1 1#1
  let main_v14 : IVec S_ 1 := (fun x v => Host.reduce IntOp.andi x v reducesTo_S3072x64_S_d0_1 h_S_) main_v13 main_c
  main_v14
-- ==== Kernel.lean ====
abbrev S1x3072x8192 : Shape := ⟨3, ![1, 3072, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S3072x8192 : Shape := ⟨2, ![3072, 8192]⟩
abbrev S1x1536 : Shape := ⟨2, ![1, 1536]⟩
abbrev S1x512 : Shape := ⟨2, ![1, 512]⟩
abbrev S3072x1536 : Shape := ⟨2, ![3072, 1536]⟩
abbrev S3072x512 : Shape := ⟨2, ![3072, 512]⟩
abbrev S3072x64 : Shape := ⟨2, ![3072, 64]⟩
abbrev S256x8192 : Shape := ⟨2, ![256, 8192]⟩
abbrev S256x1536 : Shape := ⟨2, ![256, 1536]⟩
abbrev S256x512 : Shape := ⟨2, ![256, 512]⟩
abbrev S256x64 : Shape := ⟨2, ![256, 64]⟩
abbrev S256x2112 : Shape := ⟨2, ![256, 2112]⟩
abbrev S256x128 : Shape := ⟨2, ![256, 128]⟩
abbrev S256 : Shape := ⟨1, ![256]⟩
abbrev S256x1 : Shape := ⟨2, ![256, 1]⟩
abbrev S128x512 : Shape := ⟨2, ![128, 512]⟩
abbrev S128x128 : Shape := ⟨2, ![128, 128]⟩
abbrev S1x1 : Shape := ⟨2, ![1, 1]⟩
abbrev S64x512 : Shape := ⟨2, ![64, 512]⟩
abbrev S64x128 : Shape := ⟨2, ![64, 128]⟩
abbrev S2112x512 : Shape := ⟨2, ![2112, 512]⟩

abbrev nBuf : Space → Nat
  | .hbm => 13
  | .vmem => 16
  | .smem => 1
  | _ => 0

abbrev bufTy : (tb : Table) → Fin (tcTables nBuf tb) → BufTy
  | .hbm, ⟨0, _⟩ => ⟨S1x3072x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S3072x8192, .bf16⟩
  | .hbm, ⟨6, _⟩ => ⟨S1x1536, .bf16⟩
  | .hbm, ⟨7, _⟩ => ⟨S1x512, .bf16⟩
  | .hbm, ⟨8, _⟩ => ⟨S3072x1536, .bf16⟩
  | .hbm, ⟨9, _⟩ => ⟨S3072x512, .bf16⟩
  | .hbm, ⟨10, _⟩ => ⟨S3072x64, .bf16⟩
  | .hbm, ⟨11, _⟩ => ⟨S3072x8192, .fp8e4m3⟩
  | .hbm, ⟨12, _⟩ => ⟨S3072x64, .f32⟩
  | .local _ .vmem, ⟨0, _⟩ => ⟨S256x8192, .bf16⟩
  | .local _ .vmem, ⟨1, _⟩ => ⟨S256x8192, .bf16⟩
  | .local _ .vmem, ⟨2, _⟩ => ⟨S2112x8192, .fp8e4m3⟩
  | .local _ .vmem, ⟨3, _⟩ => ⟨S1x1536, .bf16⟩
  | .local _ .vmem, ⟨4, _⟩ => ⟨S1x512, .bf16⟩
  | .local _ .vmem, ⟨5, _⟩ => ⟨S256x1536, .bf16⟩
  | .local _ .vmem, ⟨6, _⟩ => ⟨S256x1536, .bf16⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x8192, .fp8e4m3⟩
  | .local _ .vmem, ⟨12, _⟩ => ⟨S256x8192, .fp8e4m3⟩
  | .local _ .vmem, ⟨13, _⟩ => ⟨S256x64, .f32⟩
  | .local _ .vmem, ⟨14, _⟩ => ⟨S256x64, .f32⟩
  | .local _ .vmem, ⟨15, _⟩ => ⟨S256x2112, .f32⟩
  | .local _ .smem, ⟨0, _⟩ => ⟨S17x64, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  v43
def k0_off1 (k0_t1 : Fin k0_t1_loop.trips) : Fin 2 → Nat :=
  let c0_22 : Index := 0#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v45 : Index := Scalar.indexCast v44
  ![0, v45.toNat]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_44 : BitVec 32 := 512#32
  let v137 : BitVec 32 := Scalar.muli arg12 c512_i32_44
  let c0_i32_45 : BitVec 32 := 0#32
  let v138 : BitVec 32 := Scalar.addi v137 c0_i32_45
  v138
def k0_off2 (k0_t1 : Fin k0_t1_loop.trips) (c0_i32_45 : BitVec 32) : Fin 2 → Nat :=
  let c0_46 : Index := 0#32
  let c0_i32 : BitVec 32 := 0#32
  let c1_i32 : BitVec 32 := 1#32
  let arg12 : BitVec 32 := Scf.iv c0_i32 c1_i32 k0_t1
  let c512_i32_44 : BitVec 32 := 512#32
  let v137 : BitVec 32 := Scalar.muli arg12 c512_i32_44
  let v138 : BitVec 32 := Scalar.addi v137 c0_i32_45
  let v139 : BitVec 32 := v138
  let v140 : Index := Scalar.indexCast v139
  ![0, v140.toNat]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_77 : BitVec 32 := 512#32
  let v240 : BitVec 32 := Scalar.muli arg12 c512_i32_77
  let c128_i32_78 : BitVec 32 := 128#32
  let v241 : BitVec 32 := Scalar.addi v240 c128_i32_78
  v241
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_110 : BitVec 32 := 512#32
  let v343 : BitVec 32 := Scalar.muli arg12 c512_i32_110
  let c256_i32 : BitVec 32 := 256#32
  let v344 : BitVec 32 := Scalar.addi v343 c256_i32
  v344
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_142 : BitVec 32 := 512#32
  let v446 : BitVec 32 := Scalar.muli arg12 c512_i32_142
  let c384_i32 : BitVec 32 := 384#32
  let v447 : BitVec 32 := Scalar.addi v446 c384_i32
  v447
def k0_off3 (k0_t1 : Fin k0_t1_loop.trips) : Fin 2 → Nat :=
  let c0_147 : Index := 0#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v464 : Index := Scalar.indexCast v44
  ![0, v464.toNat]
def k0_off4 (k0_t1 : Fin k0_t1_loop.trips) (c0_i32_149 : BitVec 32) : Fin 2 → Nat :=
  let c0_150 : Index := 0#32
  let c0_i32 : BitVec 32 := 0#32
  let c1_i32 : BitVec 32 := 1#32
  let arg12 : BitVec 32 := Scf.iv c0_i32 c1_i32 k0_t1
  let c4_i32_148 : BitVec 32 := 4#32
  let v468 : BitVec 32 := Scalar.muli arg12 c4_i32_148
  let v469 : BitVec 32 := Scalar.addi v468 c0_i32_149
  let v470 : Index := Scalar.indexCast v469
  ![0, v470.toNat]
def k0_off5 (k0_t1 : Fin k0_t1_loop.trips) : Fin 2 → Nat :=
  let c128 : Index := 128#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v500 : Index := Scalar.indexCast v44
  ![128, v500.toNat]
def k0_off6 (k0_t1 : Fin k0_t1_loop.trips) (c0_i32_161 : BitVec 32) : Fin 2 → Nat :=
  let c1 : Index := 1#32
  let c0_i32 : BitVec 32 := 0#32
  let c1_i32 : BitVec 32 := 1#32
  let arg12 : BitVec 32 := Scf.iv c0_i32 c1_i32 k0_t1
  let c4_i32_160 : BitVec 32 := 4#32
  let v504 : BitVec 32 := Scalar.muli arg12 c4_i32_160
  let v505 : BitVec 32 := Scalar.addi v504 c0_i32_161
  let v506 : Index := Scalar.indexCast v505
  ![1, v506.toNat]
def k0_off7 (k0_t1 : Fin k0_t1_loop.trips) : Fin 2 → Nat :=
  let c256 : Index := 256#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v536 : Index := Scalar.indexCast v44
  ![256, v536.toNat]
def k0_off8 (k0_t1 : Fin k0_t1_loop.trips) (c0_i32_172 : BitVec 32) : Fin 2 → Nat :=
  let c2 : Index := 2#32
  let c0_i32 : BitVec 32 := 0#32
  let c1_i32 : BitVec 32 := 1#32
  let arg12 : BitVec 32 := Scf.iv c0_i32 c1_i32 k0_t1
  let c4_i32_171 : BitVec 32 := 4#32
  let v540 : BitVec 32 := Scalar.muli arg12 c4_i32_171
  let v541 : BitVec 32 := Scalar.addi v540 c0_i32_172
  let v542 : Index := Scalar.indexCast v541
  ![2, v542.toNat]
def k0_off9 (k0_t1 : Fin k0_t1_loop.trips) : Fin 2 → Nat :=
  let c384 : Index := 384#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v572 : Index := Scalar.indexCast v44
  ![384, v572.toNat]
def k0_off10 (k0_t1 : Fin k0_t1_loop.trips) (c0_i32_183 : BitVec 32) : Fin 2 → Nat :=
  let c3 : Index := 3#32
  let c0_i32 : BitVec 32 := 0#32
  let c1_i32 : BitVec 32 := 1#32
  let arg12 : BitVec 32 := Scf.iv c0_i32 c1_i32 k0_t1
  let c4_i32_182 : BitVec 32 := 4#32
  let v576 : BitVec 32 := Scalar.muli arg12 c4_i32_182
  let v577 : BitVec 32 := Scalar.addi v576 c0_i32_183
  let v578 : Index := Scalar.indexCast v577
  ![3, v578.toNat]
def k0_off11 (k0_t1 : Fin k0_t1_loop.trips) : Fin 2 → Nat :=
  let c512 : Index := 512#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v608 : Index := Scalar.indexCast v44
  ![512, v608.toNat]
def k0_off12 (k0_t1 : Fin k0_t1_loop.trips) (c0_i32_194 : BitVec 32) : Fin 2 → Nat :=
  let c4 : Index := 4#32
  let c0_i32 : BitVec 32 := 0#32
  let c1_i32 : BitVec 32 := 1#32
  let arg12 : BitVec 32 := Scf.iv c0_i32 c1_i32 k0_t1
  let c4_i32_193 : BitVec 32 := 4#32
  let v612 : BitVec 32 := Scalar.muli arg12 c4_i32_193
  let v613 : BitVec 32 := Scalar.addi v612 c0_i32_194
  let v614 : Index := Scalar.indexCast v613
  ![4, v614.toNat]
def k0_off13 (k0_t1 : Fin k0_t1_loop.trips) : Fin 2 → Nat :=
  let c640 : Index := 640#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v644 : Index := Scalar.indexCast v44
  ![640, v644.toNat]
def k0_off14 (k0_t1 : Fin k0_t1_loop.trips) (c0_i32_205 : BitVec 32) : Fin 2 → Nat :=
  let c5 : Index := 5#32
  let c0_i32 : BitVec 32 := 0#32
  let c1_i32 : BitVec 32 := 1#32
  let arg12 : BitVec 32 := Scf.iv c0_i32 c1_i32 k0_t1
  let c4_i32_204 : BitVec 32 := 4#32
  let v648 : BitVec 32 := Scalar.muli arg12 c4_i32_204
  let v649 : BitVec 32 := Scalar.addi v648 c0_i32_205
  let v650 : Index := Scalar.indexCast v649
  ![5, v650.toNat]
def k0_off15 (k0_t1 : Fin k0_t1_loop.trips) : Fin 2 → Nat :=
  let c768 : Index := 768#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v680 : Index := Scalar.indexCast v44
  ![768, v680.toNat]
def k0_off16 (k0_t1 : Fin k0_t1_loop.trips) (c0_i32_216 : BitVec 32) : Fin 2 → Nat :=
  let c6 : Index := 6#32
  let c0_i32 : BitVec 32 := 0#32
  let c1_i32 : BitVec 32 := 1#32
  let arg12 : BitVec 32 := Scf.iv c0_i32 c1_i32 k0_t1
  let c4_i32_215 : BitVec 32 := 4#32
  let v684 : BitVec 32 := Scalar.muli arg12 c4_i32_215
  let v685 : BitVec 32 := Scalar.addi v684 c0_i32_216
  let v686 : Index := Scalar.indexCast v685
  ![6, v686.toNat]
def k0_off17 (k0_t1 : Fin k0_t1_loop.trips) : Fin 2 → Nat :=
  let c896 : Index := 896#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v716 : Index := Scalar.indexCast v44
  ![896, v716.toNat]
def k0_off18 (k0_t1 : Fin k0_t1_loop.trips) (c0_i32_227 : BitVec 32) : Fin 2 → Nat :=
  let c7 : Index := 7#32
  let c0_i32 : BitVec 32 := 0#32
  let c1_i32 : BitVec 32 := 1#32
  let arg12 : BitVec 32 := Scf.iv c0_i32 c1_i32 k0_t1
  let c4_i32_226 : BitVec 32 := 4#32
  let v720 : BitVec 32 := Scalar.muli arg12 c4_i32_226
  let v721 : BitVec 32 := Scalar.addi v720 c0_i32_227
  let v722 : Index := Scalar.indexCast v721
  ![7, v722.toNat]
def k0_off19 (k0_t1 : Fin k0_t1_loop.trips) : Fin 2 → Nat :=
  let c1024 : Index := 1024#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v752 : Index := Scalar.indexCast v44
  ![1024, v752.toNat]
def k0_off20 (k0_t1 : Fin k0_t1_loop.trips) (c0_i32_238 : BitVec 32) : Fin 2 → Nat :=
  let c8 : Index := 8#32
  let c0_i32 : BitVec 32 := 0#32
  let c1_i32 : BitVec 32 := 1#32
  let arg12 : BitVec 32 := Scf.iv c0_i32 c1_i32 k0_t1
  let c4_i32_237 : BitVec 32 := 4#32
  let v756 : BitVec 32 := Scalar.muli arg12 c4_i32_237
  let v757 : BitVec 32 := Scalar.addi v756 c0_i32_238
  let v758 : Index := Scalar.indexCast v757
  ![8, v758.toNat]
def k0_off21 (k0_t1 : Fin k0_t1_loop.trips) : Fin 2 → Nat :=
  let c1152 : Index := 1152#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v788 : Index := Scalar.indexCast v44
  ![1152, v788.toNat]
def k0_off22 (k0_t1 : Fin k0_t1_loop.trips) (c0_i32_249 : BitVec 32) : Fin 2 → Nat :=
  let c9 : Index := 9#32
  let c0_i32 : BitVec 32 := 0#32
  let c1_i32 : BitVec 32 := 1#32
  let arg12 : BitVec 32 := Scf.iv c0_i32 c1_i32 k0_t1
  let c4_i32_248 : BitVec 32 := 4#32
  let v792 : BitVec 32 := Scalar.muli arg12 c4_i32_248
  let v793 : BitVec 32 := Scalar.addi v792 c0_i32_249
  let v794 : Index := Scalar.indexCast v793
  ![9, v794.toNat]
def k0_off23 (k0_t1 : Fin k0_t1_loop.trips) : Fin 2 → Nat :=
  let c1280 : Index := 1280#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v824 : Index := Scalar.indexCast v44
  ![1280, v824.toNat]
def k0_off24 (k0_t1 : Fin k0_t1_loop.trips) (c0_i32_260 : BitVec 32) : Fin 2 → Nat :=
  let c10 : Index := 10#32
  let c0_i32 : BitVec 32 := 0#32
  let c1_i32 : BitVec 32 := 1#32
  let arg12 : BitVec 32 := Scf.iv c0_i32 c1_i32 k0_t1
  let c4_i32_259 : BitVec 32 := 4#32
  let v828 : BitVec 32 := Scalar.muli arg12 c4_i32_259
  let v829 : BitVec 32 := Scalar.addi v828 c0_i32_260
  let v830 : Index := Scalar.indexCast v829
  ![10, v830.toNat]
def k0_off25 (k0_t1 : Fin k0_t1_loop.trips) : Fin 2 → Nat :=
  let c1408 : Index := 1408#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v860 : Index := Scalar.indexCast v44
  ![1408, v860.toNat]
def k0_off26 (k0_t1 : Fin k0_t1_loop.trips) (c0_i32_271 : BitVec 32) : Fin 2 → Nat :=
  let c11 : Index := 11#32
  let c0_i32 : BitVec 32 := 0#32
  let c1_i32 : BitVec 32 := 1#32
  let arg12 : BitVec 32 := Scf.iv c0_i32 c1_i32 k0_t1
  let c4_i32_270 : BitVec 32 := 4#32
  let v864 : BitVec 32 := Scalar.muli arg12 c4_i32_270
  let v865 : BitVec 32 := Scalar.addi v864 c0_i32_271
  let v866 : Index := Scalar.indexCast v865
  ![11, v866.toNat]
def k0_off27 (k0_t1 : Fin k0_t1_loop.trips) : Fin 2 → Nat :=
  let c1536_281 : Index := 1536#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v896 : Index := Scalar.indexCast v44
  ![1536, v896.toNat]
def k0_off28 (k0_t1 : Fin k0_t1_loop.trips) (c0_i32_283 : BitVec 32) : Fin 2 → Nat :=
  let c12 : Index := 12#32
  let c0_i32 : BitVec 32 := 0#32
  let c1_i32 : BitVec 32 := 1#32
  let arg12 : BitVec 32 := Scf.iv c0_i32 c1_i32 k0_t1
  let c4_i32_282 : BitVec 32 := 4#32
  let v900 : BitVec 32 := Scalar.muli arg12 c4_i32_282
  let v901 : BitVec 32 := Scalar.addi v900 c0_i32_283
  let v902 : Index := Scalar.indexCast v901
  ![12, v902.toNat]
def k0_off29 (k0_t1 : Fin k0_t1_loop.trips) : Fin 2 → Nat :=
  let c1664 : Index := 1664#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v932 : Index := Scalar.indexCast v44
  ![1664, v932.toNat]
def k0_off30 (k0_t1 : Fin k0_t1_loop.trips) (c0_i32_294 : BitVec 32) : Fin 2 → Nat :=
  let c13 : Index := 13#32
  let c0_i32 : BitVec 32 := 0#32
  let c1_i32 : BitVec 32 := 1#32
  let arg12 : BitVec 32 := Scf.iv c0_i32 c1_i32 k0_t1
  let c4_i32_293 : BitVec 32 := 4#32
  let v936 : BitVec 32 := Scalar.muli arg12 c4_i32_293
  let v937 : BitVec 32 := Scalar.addi v936 c0_i32_294
  let v938 : Index := Scalar.indexCast v937
  ![13, v938.toNat]
def k0_off31 (k0_t1 : Fin k0_t1_loop.trips) : Fin 2 → Nat :=
  let c1792 : Index := 1792#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v968 : Index := Scalar.indexCast v44
  ![1792, v968.toNat]
def k0_off32 (k0_t1 : Fin k0_t1_loop.trips) (c0_i32_305 : BitVec 32) : Fin 2 → Nat :=
  let c14 : Index := 14#32
  let c0_i32 : BitVec 32 := 0#32
  let c1_i32 : BitVec 32 := 1#32
  let arg12 : BitVec 32 := Scf.iv c0_i32 c1_i32 k0_t1
  let c4_i32_304 : BitVec 32 := 4#32
  let v972 : BitVec 32 := Scalar.muli arg12 c4_i32_304
  let v973 : BitVec 32 := Scalar.addi v972 c0_i32_305
  let v974 : Index := Scalar.indexCast v973
  ![14, v974.toNat]
def k0_off33 (k0_t1 : Fin k0_t1_loop.trips) : Fin 2 → Nat :=
  let c1920 : Index := 1920#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v1004 : Index := Scalar.indexCast v44
  ![1920, v1004.toNat]
def k0_off34 (k0_t1 : Fin k0_t1_loop.trips) (c0_i32_316 : BitVec 32) : Fin 2 → Nat :=
  let c15 : Index := 15#32
  let c0_i32 : BitVec 32 := 0#32
  let c1_i32 : BitVec 32 := 1#32
  let arg12 : BitVec 32 := Scf.iv c0_i32 c1_i32 k0_t1
  let c4_i32_315 : BitVec 32 := 4#32
  let v1008 : BitVec 32 := Scalar.muli arg12 c4_i32_315
  let v1009 : BitVec 32 := Scalar.addi v1008 c0_i32_316
  let v1010 : Index := Scalar.indexCast v1009
  ![15, v1010.toNat]
def k0_off35 (k0_t1 : Fin k0_t1_loop.trips) : Fin 2 → Nat :=
  let c2048_326 : Index := 2048#32
  let c0_i32 : BitVec 32 := 0#32
  let c1_i32 : BitVec 32 := 1#32
  let arg12 : BitVec 32 := Scf.iv c0_i32 c1_i32 k0_t1
  let c512_i32 : BitVec 32 := 512#32
  let v43 : BitVec 32 := Scalar.muli arg12 c512_i32
  let v44 : BitVec 32 := v43
  let v1040 : Index := Scalar.indexCast v44
  ![2048, v1040.toNat]
def k0_off36 (k0_t1 : Fin k0_t1_loop.trips) (c0_i32_328 : BitVec 32) : Fin 2 → Nat :=
  let c16 : Index := 16#32
  let c0_i32 : BitVec 32 := 0#32
  let c1_i32 : BitVec 32 := 1#32
  let arg12 : BitVec 32 := Scf.iv c0_i32 c1_i32 k0_t1
  let c4_i32_327 : BitVec 32 := 4#32
  let v1044 : BitVec 32 := Scalar.muli arg12 c4_i32_327
  let v1045 : BitVec 32 := Scalar.addi v1044 c0_i32_328
  let v1046 : Index := Scalar.indexCast v1045
  ![16, v1046.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2112x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S17x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x3072x8192 : Shape := ⟨3, ![1, 3072, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S3072x8192 : Shape := ⟨2, ![3072, 8192]⟩
abbrev S1x1536 : Shape := ⟨2, ![1, 1536]⟩
abbrev S1x512 : Shape := ⟨2, ![1, 512]⟩
abbrev S3072x1536 : Shape := ⟨2, ![3072, 1536]⟩
abbrev S3072x512 : Shape := ⟨2, ![3072, 512]⟩
abbrev S3072x64 : Shape := ⟨2, ![3072, 64]⟩
abbrev S3072x64x128 : Shape := ⟨3, ![3072, 64, 128]⟩
abbrev S3072x64x1 : Shape := ⟨3, ![3072, 64, 1]⟩
abbrev S17x1x64x1 : Shape := ⟨4, ![17, 1, 64, 1]⟩
abbrev S17x128x64x128 : Shape := ⟨4, ![17, 128, 64, 128]⟩
abbrev S2176x8192 : Shape := ⟨2, ![2176, 8192]⟩
abbrev S3072x2112 : Shape := ⟨2, ![3072, 2112]⟩
abbrev S3072 : Shape := ⟨1, ![3072]⟩
abbrev S3072x1 : Shape := ⟨2, ![3072, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x3072x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S3072x8192, .bf16⟩
  | .hbm, ⟨6, _⟩ => ⟨S1x1536, .bf16⟩
  | .hbm, ⟨7, _⟩ => ⟨S1x512, .bf16⟩
  | .hbm, ⟨8, _⟩ => ⟨S3072x1536, .bf16⟩
  | .hbm, ⟨9, _⟩ => ⟨S3072x512, .bf16⟩
  | .hbm, ⟨10, _⟩ => ⟨S3072x64, .bf16⟩
  | .hbm, ⟨11, _⟩ => ⟨S3072x8192, .fp8e4m3⟩
  | .hbm, ⟨12, _⟩ => ⟨S3072x64, .f32⟩
  | .local _ .vmem, ⟨0, _⟩ => ⟨S3072x8192, .bf16⟩
  | .local _ .vmem, ⟨1, _⟩ => ⟨S2112x8192, .fp8e4m3⟩
  | .local _ .vmem, ⟨2, _⟩ => ⟨S17x64, .f32⟩
  | .local _ .vmem, ⟨3, _⟩ => ⟨S1x1536, .bf16⟩
  | .local _ .vmem, ⟨4, _⟩ => ⟨S1x512, .bf16⟩
  | .local _ .vmem, ⟨5, _⟩ => ⟨S3072x1536, .bf16⟩
  | .local _ .vmem, ⟨6, _⟩ => ⟨S3072x512, .bf16⟩
  | .local _ .vmem, ⟨7, _⟩ => ⟨S3072x64, .bf16⟩
  | .local _ .vmem, ⟨8, _⟩ => ⟨S3072x8192, .fp8e4m3⟩
  | .local _ .vmem, ⟨9, _⟩ => ⟨S3072x64, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelTile.lean ====
module

public import proofs.«01_k».proof.Proof.Gen.Kernel.Frame
public import proofs.«01_k».proof.Proof.Gen.Kernel.Loops

@[expose] public section

/-!
# One trip of the loop over the columns, as functions of the blocks it reads

A trip takes 512 columns of the activations: four groups of 128.  Each group is quantised on its own
(`expo`, `scaleUp`, `scaleDown`, `quant`), the quantised group is scaled back (`deq`), the weight tile is scaled
back in 17 by 4 blocks (`wTile`), and their product is added to the accumulator (`accNew`).  The kernel writes
these computations once per group and once per block of rows; here each is one function of the group or the block.
-/

set_option maxRecDepth 16384

noncomputable section

namespace Cert.Kernel.Hand

open Cert.Kernel Cert.Kernel.Gen
open Idealize.ShloMosaic Idealize.ShloMosaic.TcCoe

variable {F : FTy → Type} [FloatOps F]

/-! ## The power of two of a group -/

/-- One step of the search for the exponent field of `y`: keep the larger field unless `y` is below its power of two. -/
def fieldStep (y : FVec F S256x1 .f32) (b : BitVec 32) (s : IVec S256x1 32) : IVec S256x1 32 :=
  select (cmpf .olt y (bitcastToFloat .f32 (shli (addi s (broadcast S256x1 b)) (broadcast S256x1 23#32))))
    s (addi s (broadcast S256x1 b))

/-- The exponent field of `y`, found bit by bit from the top. -/
def field (y : FVec F S256x1 .f32) : IVec S256x1 32 :=
  fieldStep y 1#32 (fieldStep y 2#32 (fieldStep y 4#32 (fieldStep y 8#32 (fieldStep y 16#32 (fieldStep y 32#32
    (fieldStep y 64#32 (fieldStep y 128#32 (broadcast S256x1 0#32))))))))

/-- The exponent of the scale: the least `e` with `y < 2 ^ e`, or zero if the field is zero. -/
def expo (y : FVec F S256x1 .f32) : IVec S256x1 32 :=
  select (cmpi .eq (field y) (broadcast S256x1 0#32)) (broadcast S256x1 0#32) (subi (field y) (broadcast S256x1 126#32))

/-- The scale, `2 ^ e`. -/
def scaleUp (y : FVec F S256x1 .f32) : FVec F S256x1 .f32 :=
  bitcastToFloat .f32 (shli (addi (expo y) (broadcast S256x1 127#32)) (broadcast S256x1 23#32))

/-- Its inverse, `2 ^ -e`. -/
def scaleDown (y : FVec F S256x1 .f32) : FVec F S256x1 .f32 :=
  bitcastToFloat .f32 (shli (subi (broadcast S256x1 127#32) (expo y)) (broadcast S256x1 23#32))

/-! ## A group of 128 columns -/

theorem gslice (g : Fin 4) : S256x512.Slices ![0, 128 * g.val] S256x128 := by revert g; decide

/-- Group `g` of the columns of a trip. -/
def grp (x : Vec F S256x512 .bf16) (g : Fin 4) : FVec F S256x128 .f32 :=
  extf .f32 (extractStridedSlice S256x128 ![0, 128 * g.val] (shapeCast S256x512 x shapeCasts_S256x512_S256x512) (gslice g))
    bitsLt_bf16_f32

/-- The largest absolute value of each row of a group, over the largest code. -/
def amax (x : Vec F S256x512 .bf16) (g : Fin 4) : FVec F S256x1 .f32 :=
  mulf (shapeCast S256x1 (multiReduction .maximumf [1] S256 (absf (grp x g)) 0xFF800000#32 reduces_S256x128_S256 (.inl rfl) rfl)
    shapeCasts_S256_S256x1) (broadcast S256x1 (Scalar.ofBits .f32 0x3B124925#32))

/-- The codes of a group. -/
def quant (x : Vec F S256x512 .bf16) (g : Fin 4) : FVec F S256x128 .fp8e4m3 :=
  truncf .fp8e4m3 (minimumf (broadcast S256x128 (Scalar.ofBits .f32 0x43E00000#32))
    (maximumf (broadcast S256x128 (Scalar.ofBits .f32 0xC3E00000#32))
      (mulf (grp x g) (broadcastTo S256x128 (scaleDown (amax x g)) broadcasts_S256x1_S256x128)))) bitsLt_fp8e4m3_f32

/-- The codes scaled back. -/
def deq (x : Vec F S256x512 .bf16) (g : Fin 4) : FVec F S256x128 .bf16 :=
  mulf (extf .bf16 (quant x g) bitsLt_fp8e4m3_bf16)
    (broadcastTo S256x128 (truncf .bf16 (scaleUp (amax x g)) bitsLt_bf16_f32) broadcasts_S256x1_S256x128)

/-- The four groups scaled back, side by side. -/
def xDeq (x : Vec F S256x512 .bf16) : FVec F S256x512 .bf16 :=
  concatenate S256x512 1 [⟨S256x128, deq x 0⟩, ⟨S256x128, deq x 1⟩, ⟨S256x128, deq x 2⟩, ⟨S256x128, deq x 3⟩]
    concatenates_S256x128_S256x128_S256x128_S256x128_S256x512_d1

/-- Group `g`'s scales put into their column of the array of scales. -/
def put (k : Fin k0_t1_loop.trips) (x : Vec F S256x512 .bf16) (g : Fin 4) (s : FVec F S256x64 .f32) : FVec F S256x64 .f32 :=
  select (cmpi .eq (iota .tc S256x64 32 [1] iota_S256x64_d1_w32) (broadcast S256x64 (Scalar.addi (Scalar.muli (Scf.iv 0#32 1#32 k) 4#32) (BitVec.ofNat 32 g.val))))
    (broadcastTo S256x64 (shapeCast S256x1 (scaleUp (amax x g)) shapeCasts_S256x1_S256x1) broadcasts_S256x1_S256x64) s

/-- The array of scales after a trip. -/
def sNew (k : Fin k0_t1_loop.trips) (x : Vec F S256x512 .bf16) (s : Vec F S256x64 .f32) : FVec F S256x64 .f32 :=
  put k x 3 (put k x 2 (put k x 1 (put k x 0 (shapeCast S256x64 s shapeCasts_S256x64_S256x64))))

/-! ## The weight tile -/

theorem wslice (g : Fin 4) : S128x512.Slices ![0, 128 * g.val] S128x128 := by revert g; decide
theorem wslice' (g : Fin 4) : S64x512.Slices ![0, 128 * g.val] S64x128 := by revert g; decide

/-- A block of 128 rows and 128 columns scaled back. -/
def wBlk (w : Vec F S128x512 .fp8e4m3) (s : Elt F .f32) (g : Fin 4) : FVec F S128x128 .bf16 :=
  mulf (extractStridedSlice S128x128 ![0, 128 * g.val] (extf .bf16 w bitsLt_fp8e4m3_bf16) (wslice g))
    (truncf .bf16 (broadcast S128x128 s) bitsLt_bf16_f32)
/-- The last block of rows has 64. -/
def wBlk' (w : Vec F S64x512 .fp8e4m3) (s : Elt F .f32) (g : Fin 4) : FVec F S64x128 .bf16 :=
  mulf (extractStridedSlice S64x128 ![0, 128 * g.val] (extf .bf16 w bitsLt_fp8e4m3_bf16) (wslice' g))
    (truncf .bf16 (broadcast S64x128 s) bitsLt_bf16_f32)

/-- The scale read at an offset. -/
def wScale (x3 : Vec F S17x64 .f32) (q : Fin 2 → ℕ) (hq : ∀ a, q a + S1x1.size a ≤ S17x64.size a) : Elt F .f32 :=
  View.ld (Val := Elt F) (e' := .f32) x3 (Rect.unit (s := S17x64) q S1x1.size hq) (Shape.Idx.first (s := S1x1) (by decide))

/-- A block of 128 rows scaled back: its offset and its four scales' offsets. -/
def wRow (x2 : Vec F S2112x8192 .fp8e4m3) (x3 : Vec F S17x64 .f32) (o : Fin 2 → ℕ) (h : ∀ a, o a + S128x512.size a ≤ S2112x8192.size a)
    (q : Fin 4 → Fin 2 → ℕ) (hq : ∀ g a, q g a + S1x1.size a ≤ S17x64.size a) : FVec F S128x512 .bf16 :=
  concatenate S128x512 1
    [⟨S128x128, wBlk (View.ld (Val := Elt F) (e' := .fp8e4m3) x2 (Rect.unit (s := S2112x8192) o S128x512.size h)) (wScale x3 (q 0) (hq 0)) 0⟩,
     ⟨S128x128, wBlk (View.ld (Val := Elt F) (e' := .fp8e4m3) x2 (Rect.unit (s := S2112x8192) o S128x512.size h)) (wScale x3 (q 1) (hq 1)) 1⟩,
     ⟨S128x128, wBlk (View.ld (Val := Elt F) (e' := .fp8e4m3) x2 (Rect.unit (s := S2112x8192) o S128x512.size h)) (wScale x3 (q 2) (hq 2)) 2⟩,
     ⟨S128x128, wBlk (View.ld (Val := Elt F) (e' := .fp8e4m3) x2 (Rect.unit (s := S2112x8192) o S128x512.size h)) (wScale x3 (q 3) (hq 3)) 3⟩]
    concatenates_S128x128_S128x128_S128x128_S128x128_S128x512_d1
/-- The last block of rows scaled back. -/
def wRow' (x2 : Vec F S2112x8192 .fp8e4m3) (x3 : Vec F S17x64 .f32) (o : Fin 2 → ℕ) (h : ∀ a, o a + S64x512.size a ≤ S2112x8192.size a)
    (q : Fin 4 → Fin 2 → ℕ) (hq : ∀ g a, q g a + S1x1.size a ≤ S17x64.size a) : FVec F S64x512 .bf16 :=
  concatenate S64x512 1
    [⟨S64x128, wBlk' (View.ld (Val := Elt F) (e' := .fp8e4m3) x2 (Rect.unit (s := S2112x8192) o S64x512.size h)) (wScale x3 (q 0) (hq 0)) 0⟩,
     ⟨S64x128, wBlk' (View.ld (Val := Elt F) (e' := .fp8e4m3) x2 (Rect.unit (s := S2112x8192) o S64x512.size h)) (wScale x3 (q 1) (hq 1)) 1⟩,
     ⟨S64x128, wBlk' (View.ld (Val := Elt F) (e' := .fp8e4m3) x2 (Rect.unit (s := S2112x8192) o S64x512.size h)) (wScale x3 (q 2) (hq 2)) 2⟩,
     ⟨S64x128, wBlk' (View.ld (Val := Elt F) (e' := .fp8e4m3) x2 (Rect.unit (s := S2112x8192) o S64x512.size h)) (wScale x3 (q 3) (hq 3)) 3⟩]
    concatenates_S64x128_S64x128_S64x128_S64x128_S64x512_d1

/-- The weight tile of trip `k`: all 2112 rows of its 512 columns. -/
def wTile (k : Fin k0_t1_loop.trips) (x2 : Vec F S2112x8192 .fp8e4m3) (x3 : Vec F S17x64 .f32) : FVec F S2112x512 .bf16 :=
  concatenate S2112x512 0
     [⟨S128x512, wRow x2 x3 (k0_off3 k) (k0_off3_inb k) (fun g => k0_off4 k (BitVec.ofNat 32 g.val)) (k0_off4_inb k)⟩,
      ⟨S128x512, wRow x2 x3 (k0_off5 k) (k0_off5_inb k) (fun g => k0_off6 k (BitVec.ofNat 32 g.val)) (k0_off6_inb k)⟩,
      ⟨S128x512, wRow x2 x3 (k0_off7 k) (k0_off7_inb k) (fun g => k0_off8 k (BitVec.ofNat 32 g.val)) (k0_off8_inb k)⟩,
      ⟨S128x512, wRow x2 x3 (k0_off9 k) (k0_off9_inb k) (fun g => k0_off10 k (BitVec.ofNat 32 g.val)) (k0_off10_inb k)⟩,
      ⟨S128x512, wRow x2 x3 (k0_off11 k) (k0_off11_inb k) (fun g => k0_off12 k (BitVec.ofNat 32 g.val)) (k0_off12_inb k)⟩,
      ⟨S128x512, wRow x2 x3 (k0_off13 k) (k0_off13_inb k) (fun g => k0_off14 k (BitVec.ofNat 32 g.val)) (k0_off14_inb k)⟩,
      ⟨S128x512, wRow x2 x3 (k0_off15 k) (k0_off15_inb k) (fun g => k0_off16 k (BitVec.ofNat 32 g.val)) (k0_off16_inb k)⟩,
      ⟨S128x512, wRow x2 x3 (k0_off17 k) (k0_off17_inb k) (fun g => k0_off18 k (BitVec.ofNat 32 g.val)) (k0_off18_inb k)⟩,
      ⟨S128x512, wRow x2 x3 (k0_off19 k) (k0_off19_inb k) (fun g => k0_off20 k (BitVec.ofNat 32 g.val)) (k0_off20_inb k)⟩,
      ⟨S128x512, wRow x2 x3 (k0_off21 k) (k0_off21_inb k) (fun g => k0_off22 k (BitVec.ofNat 32 g.val)) (k0_off22_inb k)⟩,
      ⟨S128x512, wRow x2 x3 (k0_off23 k) (k0_off23_inb k) (fun g => k0_off24 k (BitVec.ofNat 32 g.val)) (k0_off24_inb k)⟩,
      ⟨S128x512, wRow x2 x3 (k0_off25 k) (k0_off25_inb k) (fun g => k0_off26 k (BitVec.ofNat 32 g.val)) (k0_off26_inb k)⟩,
      ⟨S128x512, wRow x2 x3 (k0_off27 k) (k0_off27_inb k) (fun g => k0_off28 k (BitVec.ofNat 32 g.val)) (k0_off28_inb k)⟩,
      ⟨S128x512, wRow x2 x3 (k0_off29 k) (k0_off29_inb k) (fun g => k0_off30 k (BitVec.ofNat 32 g.val)) (k0_off30_inb k)⟩,
      ⟨S128x512, wRow x2 x3 (k0_off31 k) (k0_off31_inb k) (fun g => k0_off32 k (BitVec.ofNat 32 g.val)) (k0_off32_inb k)⟩,
      ⟨S128x512, wRow x2 x3 (k0_off33 k) (k0_off33_inb k) (fun g => k0_off34 k (BitVec.ofNat 32 g.val)) (k0_off34_inb k)⟩,
      ⟨S64x512, wRow' x2 x3 (k0_off35 k) (k0_off35_inb k) (fun g => k0_off36 k (BitVec.ofNat 32 g.val)) (k0_off36_inb k)⟩]
    concatenates_S128x512_S128x512_S128x512_S128x512_S128x512_S128x512_S128x512_S128x512_S128x512_S128x512_S128x512_S128x512_S128x512_S128x512_S128x512_S128x512_S64x512_S2112x512_d0

/-! ## The state of the loop -/

/-- The columns of trip `k`. -/
def xTile (k : Fin k0_t1_loop.trips) (x1 : Vec F S256x8192 .bf16) : Vec F S256x512 .bf16 :=
  View.ld (Val := Elt F) (e' := .bf16) x1 (Rect.unit (s := S256x8192) (k0_off1 k) S256x512.size (k0_off1_inb k))

/-- The four stores of codes of trip `k`, the last first. -/
def codesL (k : Fin k0_t1_loop.trips) (x1 : Vec F S256x8192 .bf16) : List (View.Piece (Elt F) S256x8192 .fp8e4m3) :=
  [⟨Rect.unit (k0_off2 k 384#32) S256x128.size (k0_off2_inb k 3), quant (xTile k x1) 3⟩,
   ⟨Rect.unit (k0_off2 k 256#32) S256x128.size (k0_off2_inb k 2), quant (xTile k x1) 2⟩,
   ⟨Rect.unit (k0_off2 k 128#32) S256x128.size (k0_off2_inb k 1), quant (xTile k x1) 1⟩,
   ⟨Rect.unit (k0_off2 k 0#32) S256x128.size (k0_off2_inb k 0), quant (xTile k x1) 0⟩]

/-- The accumulator after trip `k`, from the accumulator `a` before its addition. -/
def accNew (k : Fin k0_t1_loop.trips) (x1 : Vec F S256x8192 .bf16) (x2 : Vec F S2112x8192 .fp8e4m3) (x3 : Vec F S17x64 .f32)
    (a : Vec F S256x2112 .f32) : FVec F S256x2112 .f32 :=
  k0_pay116 (xDeq (xTile k x1)) (wTile k x2 x3) a

/-- The array of scales before trip `k`. -/
def stS (x1 : Vec F S256x8192 .bf16) : ℕ → Vec F S256x64 .f32
  | 0 => k0_pay117
  | k + 1 => if h : k < k0_t1_loop.trips then sNew ⟨k, h⟩ (xTile ⟨k, h⟩ x1) (stS x1 k) else stS x1 k

/-- The accumulator before trip `k` (from the second trip on it is the scratch buffer's contents; the first trip
    starts by clearing the buffer). -/
def stA (x1 : Vec F S256x8192 .bf16) (x2 : Vec F S2112x8192 .fp8e4m3) (x3 : Vec F S17x64 .f32) : ℕ → Vec F S256x2112 .f32
  | 0 => k0_pay115
  | k + 1 => if h : k < k0_t1_loop.trips then accNew ⟨k, h⟩ x1 x2 x3 (stA x1 x2 x3 k) else stA x1 x2 x3 k

end Cert.Kernel.Hand

end
-- ==== Proof.KernelTrip.lean ====
module

public import proofs.«01_k».proof.Proof.KernelTile
public import Idealize.ShloMosaic.Lib.Tactic

@[expose] public section

/-!
# The run of one trip of the loop

What the buffers of the codes, the scales and the accumulator hold before trip `k`, as functions of what they hold
before the loop, and that one trip takes the contents before it to the contents after it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

section Contents

variable (c : Dev nD) (arg9 : Memref sig .tc .vmem S256x8192 .fp8e4m3) (arg10 : Memref sig .tc .vmem S256x64 .f32)
  (arg11 : Memref sig .tc .vmem S256x2112 .f32)

/-- The codes' buffer before trip `k`. -/
def b9 (x1 : Vec F S256x8192 .bf16) (f : Bf (F := F) c arg9) : ℕ → Bf (F := F) c arg9
  | 0 => f
  | k + 1 => if h : k < k0_t1_loop.trips then arg9.view.writes (Elt F) (b9 x1 f k) (codesL ⟨k, h⟩ x1) else b9 x1 f k

/-- The scales' buffer before trip `k`. -/
def b10 (x1 : Vec F S256x8192 .bf16) (f : Bf (F := F) c arg10) : ℕ → Bf (F := F) c arg10
  | 0 => f
  | k + 1 => if h : k < k0_t1_loop.trips then
      arg10.view.writes (Elt F) (b10 x1 f k) [⟨Rect.unit ![0, 0] S256x64.size inb_S256x64_S256x64_0_0,
        sNew ⟨k, h⟩ (xTile ⟨k, h⟩ x1) (View.readAt (Elt F) arg10.view (Rect.unit ![0, 0] S256x64.size inb_S256x64_S256x64_0_0).toLoadRect (b10 x1 f k))⟩]
    else b10 x1 f k

/-- The scratch buffer when trip `k` adds to it: the first trip clears it. -/
def clr (k : Fin k0_t1_loop.trips) (f : Bf (F := F) c arg11) : Bf (F := F) c arg11 :=
  if k.val = 0 then arg11.view.writes (Elt F) f [⟨Rect.unit ![0, 0] S256x2112.size inb_S256x2112_S256x2112_0_0, k0_pay115⟩] else f

/-- The scratch buffer before trip `k`. -/
def b11 (x1 : Vec F S256x8192 .bf16) (x2 : Vec F S2112x8192 .fp8e4m3) (x3 : Vec F S17x64 .f32) (f : Bf (F := F) c arg11) : ℕ → Bf (F := F) c arg11
  | 0 => f
  | k + 1 => if h : k < k0_t1_loop.trips then
      arg11.view.writes (Elt F) (clr c arg11 ⟨k, h⟩ (b11 x1 x2 x3 f k)) [⟨Rect.unit ![0, 0] S256x2112.size inb_S256x2112_S256x2112_0_0,
        accNew ⟨k, h⟩ x1 x2 x3 (View.readAt (Elt F) arg11.view (Rect.unit ![0, 0] S256x2112.size inb_S256x2112_S256x2112_0_0).toLoadRect (clr c arg11 ⟨k, h⟩ (b11 x1 x2 x3 f k)))⟩]
    else b11 x1 x2 x3 f k

end Contents

/-- The kernel's test for the first trip. -/
theorem first_iff : ∀ k : Fin k0_t1_loop.trips,
    Iff (Scalar.cmpi .ne (Scalar.extui (Scalar.cmpi .eq (Scf.iv 0#32 1#32 k) 0#32) : BitVec 32) 0#32 = 1#1) (k.val = 0) := by decide +kernel

section Trip

variable (c : Dev nD) (i : grid0.Coords) (arg1 : Memref sig .tc .vmem S256x8192 .bf16) (harg1 : arg1.IsWhole) (arg2 : Memref sig .tc .vmem S2112x8192 .fp8e4m3) (harg2 : arg2.IsWhole) (arg3 : Memref sig .tc .smem S17x64 .f32) (harg3 : arg3.IsWhole)
  (arg4 : Memref sig .tc .vmem S1x1536 .bf16) (harg4 : arg4.IsWhole) (arg5 : Memref sig .tc .vmem S1x512 .bf16) (harg5 : arg5.IsWhole)
  (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole)
  (arg9 : Memref sig .tc .vmem S256x8192 .fp8e4m3) (harg9 : arg9.IsWhole) (arg10 : Memref sig .tc .vmem S256x64 .f32) (harg10 : arg10.IsWhole) (arg11 : Memref sig .tc .vmem S256x2112 .f32) (harg11 : arg11.IsWhole)

set_option maxHeartbeats 4000000 in
/-- One trip. -/
theorem trip (k : Fin k0_t1_loop.trips) (f1 : Bf (F := F) c arg1) (f2 : Bf (F := F) c arg2) (f3 : Bf (F := F) c arg3)
    (f9 : Bf (F := F) c arg9) (f10 : Bf (F := F) c arg10) (f11 : Bf (F := F) c arg11) (Q : Unit → sProp 𝕄) :
    iprop(pt c arg1 f1 ∗ pt c arg2 f2 ∗ pt c arg3 f3 ∗ pt c arg9 f9 ∗ pt c arg10 f10 ∗ pt c arg11 f11
      ∗ (iprop(pt c arg1 f1 ∗ pt c arg2 f2 ∗ pt c arg3 f3
          ∗ pt c arg9 (arg9.view.writes (Elt F) f9 (codesL k (arg1.view.read (Elt F) f1)))
          ∗ pt c arg10 (arg10.view.writes (Elt F) f10 [⟨Rect.unit ![0, 0] S256x64.size inb_S256x64_S256x64_0_0,
              sNew k (xTile k (arg1.view.read (Elt F) f1)) (View.readAt (Elt F) arg10.view (Rect.unit ![0, 0] S256x64.size inb_S256x64_S256x64_0_0).toLoadRect f10)⟩])
          ∗ pt c arg11 (arg11.view.writes (Elt F) (clr c arg11 k f11) [⟨Rect.unit ![0, 0] S256x2112.size inb_S256x2112_S256x2112_0_0,
              accNew k (arg1.view.read (Elt F) f1) (arg2.view.read (Elt F) f2) (arg3.view.read (Elt F) f3)
                (View.readAt (Elt F) arg11.view (Rect.unit ![0, 0] S256x2112.size inb_S256x2112_S256x2112_0_0).toLoadRect (clr c arg11 k f11))⟩])) -∗ Q ()))
    ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 (iota .tc S256x64 32 [1] iota_S256x64_d1_w32) k ()) Q := by
  unfold k0_t1_body
  simp only [k0_part24_eq_skeleton]
  iintro ⟨H1, H2, H3, H9, H10, H11, Hk⟩
  sl_exec
  have e : (if hc : trip.sl.v1080 k = 1#1 then arg11.view.writes (Elt F) f11 [⟨Rect.unit ![0, 0] S256x2112.size inb_S256x2112_S256x2112_0_0, k0_pay115⟩] else f11)
      = clr c arg11 k f11 := by
    unfold clr
    by_cases h : k.val = 0
    · rw [if_pos h]; exact dif_pos ((first_iff k).2 h)
    · rw [if_neg h]; exact dif_neg (fun hc => h ((first_iff k).1 hc))
  have e9 : trip.sl.H9_4 c arg1 k f1 = codesL k (arg1.view.read (Elt F) f1) := rfl
  have e10 : trip.sl.H10_1 c arg1 arg10 k f1 f10 = [⟨Rect.unit ![0, 0] S256x64.size inb_S256x64_S256x64_0_0,
      sNew k (xTile k (arg1.view.read (Elt F) f1)) (View.readAt (Elt F) arg10.view (Rect.unit ![0, 0] S256x64.size inb_S256x64_S256x64_0_0).toLoadRect f10)⟩] := rfl
  have ex : trip.sl.r_31 c arg1 k f1 = xDeq (xTile k (arg1.view.read (Elt F) f1)) := rfl
  have ew : trip.sl.v1076 c arg2 arg3 k f2 f3 = wTile k (arg2.view.read (Elt F) f2) (arg3.view.read (Elt F) f3) := rfl
  have ea : trip.sl.v1081 c arg11 k f11 = View.readAt (Elt F) arg11.view (Rect.unit ![0, 0] S256x2112.size inb_S256x2112_S256x2112_0_0).toLoadRect (clr c arg11 k f11) := by
    rw [← e]; rfl
  rw [e, e9, e10, ex, ew, ea]
  sl_step
  iapply Hk
  isplitl [H1]; · iexact H1
  isplitl [H2]; · iexact H2
  isplitl [H3]; · iexact H3
  isplitl [H9]; · iexact H9
  isplitl [H10]; · iexact H10
  iexact H11

set_option warn.classDefReducibility false in
/-- The loop's invariant: the inputs as they are, the three buffers at their contents before trip `k`. -/
@[sl_loop] def loopInv (f1 : Bf (F := F) c arg1) (f2 : Bf (F := F) c arg2) (f3 : Bf (F := F) c arg3)
    (f9 : Bf (F := F) c arg9) (f10 : Bf (F := F) c arg10) (f11 : Bf (F := F) c arg11) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 (iota .tc S256x64 32 [1] iota_S256x64_d1_w32) where
  inv k _ := iprop(pt c arg1 f1 ∗ pt c arg2 f2 ∗ pt c arg3 f3
    ∗ pt c arg9 (b9 c arg9 (arg1.view.read (Elt F) f1) f9 k) ∗ pt c arg10 (b10 c arg10 (arg1.view.read (Elt F) f1) f10 k)
    ∗ pt c arg11 (b11 c arg11 (arg1.view.read (Elt F) f1) (arg2.view.read (Elt F) f2) (arg3.view.read (Elt F) f3) f11 k))
  step k _ := by
    have hk : k.val < k0_t1_loop.trips := k.isLt
    rw [b9, b10, b11, dif_pos hk, dif_pos hk, dif_pos hk]
    iintro ⟨H1, H2, H3, H9, H10, H11⟩
    iapply (trip c i arg1 harg1 arg2 harg2 arg3 harg3 arg4 harg4 arg5 harg5 arg6 harg6 arg7 harg7 arg8 harg8 arg9 harg9 arg10 harg10 arg11 harg11 k f1 f2 f3 _ _ _ _)
    isplitl [H1]; · iexact H1
    isplitl [H2]; · iexact H2
    isplitl [H3]; · iexact H3
    isplitl [H9]; · iexact H9
    isplitl [H10]; · iexact H10
    isplitl [H11]; · iexact H11
    iintro ⟨H1, H2, H3, H9, H10, H11⟩
    isplitl [H1]; · iexact H1
    isplitl [H2]; · iexact H2
    isplitl [H3]; · iexact H3
    isplitl [H9]; · iexact H9
    isplitl [H10]; · iexact H10
    iexact H11

end Trip

end Cert.Kernel.Hand

end
-- ==== Proof.KernelState.lean ====
module

public import proofs.«01_k».proof.Proof.KernelTrip
public import Idealize.ShloMosaic.Lib.WritesUnit
public import Idealize.ShloMosaic.Lib.VecWindow
public import Idealize.ShloMosaic.Lib.Pipeline.ValueKit

@[expose] public section

/-!
# What the loop leaves

The contents of the three buffers the loop writes, read through their views: the scales' buffer holds `stS`, the
scratch buffer `stA`, and the codes' buffer holds, in the columns of the trips run, the codes of their groups
(`codesAt`).
-/

set_option maxRecDepth 16384

noncomputable section

namespace Cert.Kernel.Hand

open Cert.Kernel Cert.Kernel.Gen
open Idealize.ShloMosaic Idealize.ShloMosaic.TcCoe

variable {F : FTy → Type} [FloatOps F]

attribute [local irreducible] sNew accNew quant xTile

theorem trips_eq : k0_t1_loop.trips = 16 := by decide +kernel

/-- The trip, the group in it and the place in the group of a column. -/
def colTrip (j : Fin 8192) : Fin k0_t1_loop.trips := ⟨j.val / 512, by rw [trips_eq]; omega⟩
def colGroup (j : Fin 8192) : Fin 4 := ⟨j.val % 512 / 128, by omega⟩
def inGroup (y : S256x8192.Idx) : S256x128.Idx
  | ⟨0, _⟩ => y 0
  | ⟨1, _⟩ => (⟨(y 1).val % 128, Nat.mod_lt _ (by decide)⟩ : Fin 128)

/-- The codes of a block of rows: at each column those of its group. -/
def codesAt (x1 : Vec F S256x8192 .bf16) : Vec F S256x8192 .fp8e4m3 := fun y =>
  quant (xTile (colTrip (y 1)) x1) (colGroup (y 1)) (inGroup y)

theorem readAt_full {S : Shape} {sp : Space} {e : EltTy} (M : Memref sig .tc sp S e) (o : Fin S.rank → ℕ) (ho : o = fun _ => 0)
    (h : ∀ a, o a + S.size a ≤ S.size a) (f : M.view.ty.Contents (Elt F)) :
    View.readAt (Elt F) M.view (Rect.unit o S.size h).toLoadRect f = M.view.read (Elt F) f := by
  subst ho
  exact View.ld_unit_zero rfl h _

section

variable (c : Dev nD) (arg9 : Memref sig .tc .vmem S256x8192 .fp8e4m3) (arg10 : Memref sig .tc .vmem S256x64 .f32)
  (arg11 : Memref sig .tc .vmem S256x2112 .f32)

theorem zero2 : (![0, 0] : Fin 2 → ℕ) = fun _ => 0 := by funext a; fin_cases a <;> rfl

theorem read_b10 (x1 : Vec F S256x8192 .bf16) (f : Bf (F := F) c arg10) (hf : arg10.view.read (Elt F) f = k0_pay117) (k : ℕ) :
    arg10.view.read (Elt F) (b10 c arg10 x1 f k) = stS x1 k := by
  induction k with
  | zero => exact hf
  | succ k ih =>
    rw [b10, stS]
    by_cases h : k < k0_t1_loop.trips
    · rw [dif_pos h, dif_pos h]
      refine (View.read_writes_full _ _ _ _ _).trans ?_
      exact congrArg (sNew ⟨k, h⟩ (xTile ⟨k, h⟩ x1)) ((readAt_full arg10 _ zero2 _ _).trans ih)
    · rw [dif_neg h, dif_neg h, ih]

theorem clr_zero (h : 0 < k0_t1_loop.trips) (f : Bf (F := F) c arg11) :
    clr c arg11 ⟨0, h⟩ f = arg11.view.writes (Elt F) f [⟨Rect.unit ![0, 0] S256x2112.size inb_S256x2112_S256x2112_0_0, k0_pay115⟩] :=
  if_pos rfl
theorem clr_succ (k : ℕ) (h : k + 1 < k0_t1_loop.trips) (f : Bf (F := F) c arg11) : clr c arg11 ⟨k + 1, h⟩ f = f :=
  if_neg (Nat.succ_ne_zero k)

theorem read_b11_step (x1 : Vec F S256x8192 .bf16) (x2 : Vec F S2112x8192 .fp8e4m3) (x3 : Vec F S17x64 .f32) (f : Bf (F := F) c arg11) (k : ℕ)
    (hk : k < k0_t1_loop.trips)
    (key : arg11.view.read (Elt F) (clr c arg11 ⟨k, hk⟩ (b11 c arg11 x1 x2 x3 f k)) = stA x1 x2 x3 k) :
    arg11.view.read (Elt F) (b11 c arg11 x1 x2 x3 f (k + 1)) = stA x1 x2 x3 (k + 1) := by
  have e1 : b11 c arg11 x1 x2 x3 f (k + 1) = _ := dif_pos hk
  have e2 : stA x1 x2 x3 (k + 1) = accNew ⟨k, hk⟩ x1 x2 x3 (stA x1 x2 x3 k) := dif_pos hk
  rw [e1, e2]
  refine (View.read_writes_full _ _ _ _ _).trans ?_
  exact congrArg (accNew ⟨k, hk⟩ x1 x2 x3) ((readAt_full arg11 _ zero2 _ _).trans key)

theorem read_b11 (x1 : Vec F S256x8192 .bf16) (x2 : Vec F S2112x8192 .fp8e4m3) (x3 : Vec F S17x64 .f32) (f : Bf (F := F) c arg11) (k : ℕ)
    (hk : k < k0_t1_loop.trips) :
    arg11.view.read (Elt F) (b11 c arg11 x1 x2 x3 f (k + 1)) = stA x1 x2 x3 (k + 1) := by
  have key : arg11.view.read (Elt F) (clr c arg11 ⟨k, hk⟩ (b11 c arg11 x1 x2 x3 f k)) = stA x1 x2 x3 k := by
    induction k with
    | zero => rw [clr_zero, stA]; exact View.read_writes_full _ _ _ _ _
    | succ k ih => rw [clr_succ]; exact read_b11_step c arg11 x1 x2 x3 f k (Nat.lt_of_succ_lt hk) (ih _)
  exact read_b11_step c arg11 x1 x2 x3 f k hk key

/-- A store of group `g` of trip `k` gives the codes of its columns. -/
theorem codes_hit (x1 : Vec F S256x8192 .bf16) (f : arg9.view.ty.Contents (Elt F)) (k : Fin k0_t1_loop.trips) (g : Fin 4) (o : Fin 2 → ℕ)
    (ho : o = ![0, 512 * k.val + 128 * g.val]) (inb : ∀ a, o a + S256x128.size a ≤ S256x8192.size a)
    (L : List (View.Piece (Elt F) S256x8192 .fp8e4m3)) (y : S256x8192.Idx)
    (hL : ¬ (512 * k.val + 128 * g.val ≤ (y 1).val ∧ (y 1).val < 512 * k.val + 128 * g.val + 128) →
      arg9.view.read (Elt F) (arg9.view.writes (Elt F) f L) y = codesAt x1 y) :
    arg9.view.read (Elt F) (arg9.view.writes (Elt F) f ((⟨Rect.unit o S256x128.size inb, quant (xTile k x1) g⟩ : View.Piece (Elt F) S256x8192 .fp8e4m3) :: L)) y
      = codesAt x1 y := by
  have hk : k.val < 16 := Nat.lt_of_lt_of_eq k.isLt trips_eq
  have hg := g.isLt
  have hy : (y 1).val < 8192 := (y 1).isLt
  by_cases h : 512 * k.val + 128 * g.val ≤ (y 1).val ∧ (y 1).val < 512 * k.val + 128 * g.val + 128
  · refine (View.read_writes_cons_unit_of_mem _ _ inb _ L y (inGroup y) ho ?_).trans ?_
    · intro a
      fin_cases a
      · show (y 0).val = 0 + (y 0).val; omega
      · show (y 1).val = 512 * k.val + 128 * g.val + (y 1).val % 128; omega
    · have e1 : colTrip (y 1) = k := Fin.ext (by show (y 1).val / 512 = k.val; omega)
      have e2 : colGroup (y 1) = g := Fin.ext (by show (y 1).val % 512 / 128 = g.val; omega)
      unfold codesAt; rw [e1, e2]
  · refine (View.read_writes_cons_unit_of_not_mem _ _ inb _ L y ho 1 ?_).trans (hL h)
    show (y 1).val < 512 * k.val + 128 * g.val ∨ 512 * k.val + 128 * g.val + 128 ≤ (y 1).val
    omega

theorem read_b9 (x1 : Vec F S256x8192 .bf16) (f : Bf (F := F) c arg9) (k : ℕ) (hk : k ≤ k0_t1_loop.trips) (y : S256x8192.Idx)
    (hy : (y 1).val < 512 * k) : arg9.view.read (Elt F) (b9 c arg9 x1 f k) y = codesAt x1 y := by
  induction k with
  | zero => exact absurd hy (by omega)
  | succ k ih =>
    have e1 : b9 c arg9 x1 f (k + 1) = _ := dif_pos (Nat.lt_of_succ_le hk)
    rw [e1]
    refine codes_hit arg9 x1 _ ⟨k, hk⟩ 3 _ (k0_off2_eq ⟨k, hk⟩ 3) _ _ y fun h3 => ?_
    refine codes_hit arg9 x1 _ ⟨k, hk⟩ 2 _ (k0_off2_eq ⟨k, hk⟩ 2) _ _ y fun h2 => ?_
    refine codes_hit arg9 x1 _ ⟨k, hk⟩ 1 _ (k0_off2_eq ⟨k, hk⟩ 1) _ _ y fun h1 => ?_
    refine codes_hit arg9 x1 _ ⟨k, hk⟩ 0 _ (k0_off2_eq ⟨k, hk⟩ 0) _ _ y fun h0 => ?_
    refine ih (Nat.le_of_succ_le hk) ?_
    simp only [show ((3 : Fin 4) : ℕ) = 3 from rfl, show ((2 : Fin 4) : ℕ) = 2 from rfl, show ((1 : Fin 4) : ℕ) = 1 from rfl,
      show ((0 : Fin 4) : ℕ) = 0 from rfl] at h0 h1 h2 h3
    omega

end

/-! ## The five results of a block of rows -/

variable (x1 : Vec F S256x8192 .bf16) (x2 : Vec F S2112x8192 .fp8e4m3) (x3 : Vec F S17x64 .f32) (x4 : Vec F S1x1536 .bf16) (x5 : Vec F S1x512 .bf16)

/-- The three parts of the accumulator. -/
def accQ : Vec F S256x1536 .f32 := View.ld (Val := Elt F) (e' := .f32) (stA x1 x2 x3 16) (Rect.unit (s := S256x2112) ![0, 0] S256x1536.size inb_S256x2112_S256x1536_0_0)
def accKv : Vec F S256x512 .f32 := View.ld (Val := Elt F) (e' := .f32) (stA x1 x2 x3 16) (Rect.unit (s := S256x2112) ![0, 1536] S256x512.size inb_S256x2112_S256x512_0_1536)
def accPe : Vec F S256x64 .f32 := View.ld (Val := Elt F) (e' := .f32) (stA x1 x2 x3 16) (Rect.unit (s := S256x2112) ![0, 2048] S256x64.size inb_S256x2112_S256x64_0_2048)

def outQ : Vec F S256x1536 .bf16 := k0_pay118 (accQ x1 x2 x3) x4
def outKv : Vec F S256x512 .bf16 := k0_pay1 (accKv x1 x2 x3) (k0_pay119 x5) (k0_pay120 (accKv x1 x2 x3))
def outPe : Vec F S256x64 .bf16 := k0_pay2 (accPe x1 x2 x3)
def outC : Vec F S256x8192 .fp8e4m3 := codesAt x1
def outS : Vec F S256x64 .f32 := stS x1 16

end Cert.Kernel.Hand

end
-- ==== Proof.KernelBody.lean ====
module

public import proofs.«01_k».proof.Proof.KernelState
public import Idealize.ShloMosaic.Lib.Pipeline.FrameBody
public import Idealize.ShloMosaic.Lib.Claim

@[expose] public section

/-!
# The run of the kernel

The body at one block of rows leaves the five results of the block; the launch runs it at the twelve blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] sNew accNew quant xTile

section Kernel

variable (c : Dev nD) (i : grid0.Coords) (arg1 : Memref sig .tc .vmem S256x8192 .bf16) (harg1 : arg1.IsWhole) (arg2 : Memref sig .tc .vmem S2112x8192 .fp8e4m3) (harg2 : arg2.IsWhole) (arg3 : Memref sig .tc .smem S17x64 .f32) (harg3 : arg3.IsWhole)
  (arg4 : Memref sig .tc .vmem S1x1536 .bf16) (harg4 : arg4.IsWhole) (arg5 : Memref sig .tc .vmem S1x512 .bf16) (harg5 : arg5.IsWhole)
  (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole)
  (arg9 : Memref sig .tc .vmem S256x8192 .fp8e4m3) (harg9 : arg9.IsWhole) (arg10 : Memref sig .tc .vmem S256x64 .f32) (harg10 : arg10.IsWhole) (arg11 : Memref sig .tc .vmem S256x2112 .f32) (harg11 : arg11.IsWhole)

set_option maxHeartbeats 4000000 in
/-- The body on whole staging memrefs: the inputs stay, each output holds its result, the scratch is given back. -/
theorem sound_kernel (x1 : Vec F S256x8192 .bf16) (x2 : Vec F S2112x8192 .fp8e4m3) (x3 : Vec F S17x64 .f32) (x4 : Vec F S1x1536 .bf16) (x5 : Vec F S1x512 .bf16)
    (f11 : Bf (F := F) c arg11) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ pt c arg11 f11
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outQ x1 x2 x3 x4) ∗ owns (c : Thread nD τ) arg7 fullShare (outKv x1 x2 x3 x5) ∗ owns (c : Thread nD τ) arg8 fullShare (outPe x1 x2 x3) ∗ owns (c : Thread nD τ) arg9 fullShare (outC x1) ∗ owns (c : Thread nD τ) arg10 fullShare (outS x1) ∗ (∃ f, pt c arg11 f)) -∗ K ⟨⟩))
    ⊢ wp frame (wpE (defs₀ (F := F)) Variants.none c none) Set.univ (cc0_mla_a_proj (F := F) i arg1 harg1 arg2 harg2 arg3 harg3 arg4 harg4 arg5 harg5 arg6 harg6 arg7 harg7 arg8 harg8 arg9 harg9 arg10 harg10 arg11 harg11) K := by
  simp only [cc0_mla_a_proj_eq_skeleton]; unfold cc0_mla_a_proj_skel
  simp only [k0_part25_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, H11, Hk⟩
  subst hf1 hf2 hf3 hf4 hf5
  sl_exec
  sl_step
  have hA : arg11.view.read (Elt F) (b11 c arg11 (arg1.view.read (Elt F) f1) (arg2.view.read (Elt F) f2) (arg3.view.read (Elt F) f3) f11 16)
      = stA (arg1.view.read (Elt F) f1) (arg2.view.read (Elt F) f2) (arg3.view.read (Elt F) f3) 16 :=
    read_b11 c arg11 _ _ _ f11 15 (by rw [trips_eq]; decide)
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    exact congrArg₂ (fun a b => k0_pay118 (View.ld (Val := Elt F) (e' := .f32) a (Rect.unit (s := S256x2112) ![0, 0] S256x1536.size inb_S256x2112_S256x1536_0_0)) b)
      hA (readAt_full arg4 _ zero2 _ _)
  isplitl [H7]
  · iexists _; isplitr
    swap; · iexact H7
    ipureintro
    refine (View.read_writes_full _ _ _ _ _).trans ?_
    exact congrArg₂ (fun a b => k0_pay1 (View.ld (Val := Elt F) (e' := .f32) a (Rect.unit (s := S256x2112) ![0, 1536] S256x512.size inb_S256x2112_S256x512_0_1536)) (k0_pay119 b)
      (k0_pay120 (View.ld (Val := Elt F) (e' := .f32) a (Rect.unit (s := S256x2112) ![0, 1536] S256x512.size inb_S256x2112_S256x512_0_1536))))
      hA (readAt_full arg5 _ zero2 _ _)
  isplitl [H8]
  · iexists _; isplitr
    swap; · iexact H8
    ipureintro
    refine (View.read_writes_full _ _ _ _ _).trans ?_
    exact congrArg (fun a => k0_pay2 (View.ld (Val := Elt F) (e' := .f32) a (Rect.unit (s := S256x2112) ![0, 2048] S256x64.size inb_S256x2112_S256x64_0_2048))) hA
  isplitl [H9]
  · iexists _; isplitr
    swap; · iexact H9
    ipureintro
    exact funext fun y => read_b9 c arg9 _ f9 16 (le_of_eq trips_eq.symm) y (y 1).isLt
  isplitl [H10]
  · iexists _; isplitr
    swap; · iexact H10
    ipureintro
    exact read_b10 c arg10 _ _ (View.read_writes_full _ _ _ _ _) 16
  iexists _; iexact H11

end Kernel

/-! ## The pipeline's proof data -/

variable (m : (ℓ : Loc nD τ sig) → Buf (Elt F) ℓ) (ρ : Dev nD → PrngReg)

/-- What each staging buffer holds after the body at point `t`: the inputs their blocks, the outputs the results of the
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (iblk m c 0 t) (iblk m c 1 t) (iblk m c 2 t) (iblk m c 3 t)
    | ⟨6, _⟩ => outKv (iblk m c 0 t) (iblk m c 1 t) (iblk m c 2 t) (iblk m c 4 t)
    | ⟨7, _⟩ => outPe (iblk m c 0 t) (iblk m c 1 t) (iblk m c 2 t)
    | ⟨8, _⟩ => outC (iblk m c 0 t)
    | ⟨9, _⟩ => outS (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outQ (iblk m c 0 t) (iblk m c 1 t) (iblk m c 2 t) (iblk m c 3 t) := by dsimp only [dats]
theorem after0_6 (c : Dev nD) (t : Fin cfg0.N) : (dats m 0 c).after 6 t = outKv (iblk m c 0 t) (iblk m c 1 t) (iblk m c 2 t) (iblk m c 4 t) := by dsimp only [dats]
theorem after0_7 (c : Dev nD) (t : Fin cfg0.N) : (dats m 0 c).after 7 t = outPe (iblk m c 0 t) (iblk m c 1 t) (iblk m c 2 t) := by dsimp only [dats]
theorem after0_8 (c : Dev nD) (t : Fin cfg0.N) : (dats m 0 c).after 8 t = outC (iblk m c 0 t) := by dsimp only [dats]
theorem after0_9 (c : Dev nD) (t : Fin cfg0.N) : (dats m 0 c).after 9 t = outS (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The scratch buffer as the launch holds it and as the body does. -/
theorem scratch_pt (c : Dev nD) (f : Bf (F := F) c (Memref.whole cc0_scratch0)) :
    pt c (Memref.whole cc0_scratch0) f = (((c : Thread nD τ).loc cc0_scratch0) ↦{fullShare} f : sProp 𝕄) := by
  have e : (Memref.whole (sig := sig) cc0_scratch0).view.set = Finset.univ := by rw [Memref.view_whole, View.set_whole]
  unfold pt
  rw [e]

theorem scratch_eq (c : Dev nD) :
    (Pipeline.ΦA (Val := Elt F) (U := UR sig nD τ) spec0 c : sProp 𝕄)
      = iprop((∃ f, pt c (Memref.whole cc0_scratch0) f) ∗ ∃ r, prngReg c r) := by
  unfold Pipeline.ΦA
  rw [scopedRest0_eq]
  have e : (fun f : Bf (F := F) c (Memref.whole cc0_scratch0) => pt c (Memref.whole cc0_scratch0) f)
      = fun f => (((c : Thread nD τ).loc cc0_scratch0) ↦{fullShare} f : sProp 𝕄) := funext (scratch_pt c)
  exact (congrArg (fun Y => iprop((∃ f, Y f) ∗ ∃ r, prngReg c r)) e).symm

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  rw [scratch_eq]
  iintro ⟨⟨⟨%f11, H11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ (Memref.whole cc0_scratch0) (Memref.isWhole_whole _) (iblk m c 0 t) (iblk m c 1 t) (iblk m c 2 t) (iblk m c 3 t) (iblk m c 4 t) f11 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H11]; · iexact H11
  iintro ⟨H0, H1, H2, H3, H4, H5, H6, H7, H8, H9, ⟨%f, H11⟩⟩
  isplitl [H11 Hr]
  · isplitl [H11]
    · iexists f; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch ends, with every array of the pipeline at what its proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdealTile.lean ====
module

public import proofs.«01_k».proof.Proof.Gen.KernelIdeal.Frame
public import proofs.«01_k».proof.Proof.Gen.KernelIdeal.Loops

@[expose] public section

/-!
# One trip of the loop over the columns, as functions of the blocks it reads

A trip takes 512 columns of the activations: four groups of 128.  Each group is quantised on its own
(`expo`, `scaleUp`, `scaleDown`, `quant`), the quantised group is scaled back (`deq`), the weight tile is scaled
back in 17 by 4 blocks (`wTile`), and their product is added to the accumulator (`accNew`).  The kernel writes
these computations once per group and once per block of rows; here each is one function of the group or the block.
-/

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The power of two of a group -/

/-- One step of the search for the exponent field of `y`: keep the larger field unless `y` is below its power of two. -/
def fieldStep (y : FVec F S256x1 .f32) (b : BitVec 32) (s : IVec S256x1 32) : IVec S256x1 32 :=
  select (cmpf .olt y (bitcastToFloat .f32 (shli (addi s (broadcast S256x1 b)) (broadcast S256x1 23#32))))
    s (addi s (broadcast S256x1 b))

/-- The exponent field of `y`, found bit by bit from the top. -/
def field (y : FVec F S256x1 .f32) : IVec S256x1 32 :=
  fieldStep y 1#32 (fieldStep y 2#32 (fieldStep y 4#32 (fieldStep y 8#32 (fieldStep y 16#32 (fieldStep y 32#32
    (fieldStep y 64#32 (fieldStep y 128#32 (broadcast S256x1 0#32))))))))

/-- The exponent of the scale: the least `e` with `y < 2 ^ e`, or zero if the field is zero. -/
def expo (y : FVec F S256x1 .f32) : IVec S256x1 32 :=
  select (cmpi .eq (field y) (broadcast S256x1 0#32)) (broadcast S256x1 0#32) (subi (field y) (broadcast S256x1 126#32))

/-- The scale, `2 ^ e`. -/
def scaleUp (y : FVec F S256x1 .f32) : FVec F S256x1 .f32 :=
  bitcastToFloat .f32 (shli (addi (expo y) (broadcast S256x1 127#32)) (broadcast S256x1 23#32))

/-- Its inverse, `2 ^ -e`. -/
def scaleDown (y : FVec F S256x1 .f32) : FVec F S256x1 .f32 :=
  bitcastToFloat .f32 (shli (subi (broadcast S256x1 127#32) (expo y)) (broadcast S256x1 23#32))

/-! ## A group of 128 columns -/

theorem gslice (g : Fin 4) : S256x512.Slices ![0, 128 * g.val] S256x128 := by revert g; decide

/-- Group `g` of the columns of a trip. -/
def grp (x : Vec F S256x512 .bf16) (g : Fin 4) : FVec F S256x128 .f32 :=
  extf .f32 (extractStridedSlice S256x128 ![0, 128 * g.val] (shapeCast S256x512 x shapeCasts_S256x512_S256x512) (gslice g))
    bitsLt_bf16_f32

/-- The largest absolute value of each row of a group, over the largest code. -/
def amax (x : Vec F S256x512 .bf16) (g : Fin 4) : FVec F S256x1 .f32 :=
  mulf (shapeCast S256x1 (multiReduction .maximumf [1] S256 (absf (grp x g)) 0xFF800000#32 reduces_S256x128_S256 (.inl rfl) rfl)
    shapeCasts_S256_S256x1) (broadcast S256x1 (Scalar.ofBits .f32 0x3B124925#32))

/-- The codes of a group. -/
def quant (x : Vec F S256x512 .bf16) (g : Fin 4) : FVec F S256x128 .fp8e4m3 :=
  truncf .fp8e4m3 (minimumf (broadcast S256x128 (Scalar.ofBits .f32 0x43E00000#32))
    (maximumf (broadcast S256x128 (Scalar.ofBits .f32 0xC3E00000#32))
      (mulf (grp x g) (broadcastTo S256x128 (scaleDown (amax x g)) broadcasts_S256x1_S256x128)))) bitsLt_fp8e4m3_f32

/-- The codes scaled back. -/
def deq (x : Vec F S256x512 .bf16) (g : Fin 4) : FVec F S256x128 .bf16 :=
  mulf (extf .bf16 (quant x g) bitsLt_fp8e4m3_bf16)
    (broadcastTo S256x128 (truncf .bf16 (scaleUp (amax x g)) bitsLt_bf16_f32) broadcasts_S256x1_S256x128)

/-- The four groups scaled back, side by side. -/
def xDeq (x : Vec F S256x512 .bf16) : FVec F S256x512 .bf16 :=
  concatenate S256x512 1 [⟨S256x128, deq x 0⟩, ⟨S256x128, deq x 1⟩, ⟨S256x128, deq x 2⟩, ⟨S256x128, deq x 3⟩]
    concatenates_S256x128_S256x128_S256x128_S256x128_S256x512_d1

/-- Group `g`'s scales put into their column of the array of scales. -/
def put (k : Fin k0_t1_loop.trips) (x : Vec F S256x512 .bf16) (g : Fin 4) (s : FVec F S256x64 .f32) : FVec F S256x64 .f32 :=
  select (cmpi .eq (iota .tc S256x64 32 [1] iota_S256x64_d1_w32) (broadcast S256x64 (Scalar.addi (Scalar.muli (Scf.iv 0#32 1#32 k) 4#32) (BitVec.ofNat 32 g.val))))
    (broadcastTo S256x64 (shapeCast S256x1 (scaleUp (amax x g)) shapeCasts_S256x1_S256x1) broadcasts_S256x1_S256x64) s

/-- The array of scales after a trip. -/
def sNew (k : Fin k0_t1_loop.trips) (x : Vec F S256x512 .bf16) (s : Vec F S256x64 .f32) : FVec F S256x64 .f32 :=
  put k x 3 (put k x 2 (put k x 1 (put k x 0 (shapeCast S256x64 s shapeCasts_S256x64_S256x64))))

/-! ## The weight tile -/

theorem wslice (g : Fin 4) : S128x512.Slices ![0, 128 * g.val] S128x128 := by revert g; decide
theorem wslice' (g : Fin 4) : S64x512.Slices ![0, 128 * g.val] S64x128 := by revert g; decide

/-- A block of 128 rows and 128 columns scaled back. -/
def wBlk (w : Vec F S128x512 .fp8e4m3) (s : Elt F .f32) (g : Fin 4) : FVec F S128x128 .bf16 :=
  mulf (extractStridedSlice S128x128 ![0, 128 * g.val] (extf .bf16 w bitsLt_fp8e4m3_bf16) (wslice g))
    (truncf .bf16 (broadcast S128x128 s) bitsLt_bf16_f32)
/-- The last block of rows has 64. -/
def wBlk' (w : Vec F S64x512 .fp8e4m3) (s : Elt F .f32) (g : Fin 4) : FVec F S64x128 .bf16 :=
  mulf (extractStridedSlice S64x128 ![0, 128 * g.val] (extf .bf16 w bitsLt_fp8e4m3_bf16) (wslice' g))
    (truncf .bf16 (broadcast S64x128 s) bitsLt_bf16_f32)

/-- The scale read at an offset. -/
def wScale (x3 : Vec F S17x64 .f32) (q : Fin 2 → ℕ) (hq : ∀ a, q a + S1x1.size a ≤ S17x64.size a) : Elt F .f32 :=
  View.ld (Val := Elt F) (e' := .f32) x3 (Rect.unit (s := S17x64) q S1x1.size hq) (Shape.Idx.first (s := S1x1) (by decide))

/-- A block of 128 rows scaled back: its offset and its four scales' offsets. -/
def wRow (x2 : Vec F S2112x8192 .fp8e4m3) (x3 : Vec F S17x64 .f32) (o : Fin 2 → ℕ) (h : ∀ a, o a + S128x512.size a ≤ S2112x8192.size a)
    (q : Fin 4 → Fin 2 → ℕ) (hq : ∀ g a, q g a + S1x1.size a ≤ S17x64.size a) : FVec F S128x512 .bf16 :=
  concatenate S128x512 1
    [⟨S128x128, wBlk (View.ld (Val := Elt F) (e' := .fp8e4m3) x2 (Rect.unit (s := S2112x8192) o S128x512.size h)) (wScale x3 (q 0) (hq 0)) 0⟩,
     ⟨S128x128, wBlk (View.ld (Val := Elt F) (e' := .fp8e4m3) x2 (Rect.unit (s := S2112x8192) o S128x512.size h)) (wScale x3 (q 1) (hq 1)) 1⟩,
     ⟨S128x128, wBlk (View.ld (Val := Elt F) (e' := .fp8e4m3) x2 (Rect.unit (s := S2112x8192) o S128x512.size h)) (wScale x3 (q 2) (hq 2)) 2⟩,
     ⟨S128x128, wBlk (View.ld (Val := Elt F) (e' := .fp8e4m3) x2 (Rect.unit (s := S2112x8192) o S128x512.size h)) (wScale x3 (q 3) (hq 3)) 3⟩]
    concatenates_S128x128_S128x128_S128x128_S128x128_S128x512_d1
/-- The last block of rows scaled back. -/
def wRow' (x2 : Vec F S2112x8192 .fp8e4m3) (x3 : Vec F S17x64 .f32) (o : Fin 2 → ℕ) (h : ∀ a, o a + S64x512.size a ≤ S2112x8192.size a)
    (q : Fin 4 → Fin 2 → ℕ) (hq : ∀ g a, q g a + S1x1.size a ≤ S17x64.size a) : FVec F S64x512 .bf16 :=
  concatenate S64x512 1
    [⟨S64x128, wBlk' (View.ld (Val := Elt F) (e' := .fp8e4m3) x2 (Rect.unit (s := S2112x8192) o S64x512.size h)) (wScale x3 (q 0) (hq 0)) 0⟩,
     ⟨S64x128, wBlk' (View.ld (Val := Elt F) (e' := .fp8e4m3) x2 (Rect.unit (s := S2112x8192) o S64x512.size h)) (wScale x3 (q 1) (hq 1)) 1⟩,
     ⟨S64x128, wBlk' (View.ld (Val := Elt F) (e' := .fp8e4m3) x2 (Rect.unit (s := S2112x8192) o S64x512.size h)) (wScale x3 (q 2) (hq 2)) 2⟩,
     ⟨S64x128, wBlk' (View.ld (Val := Elt F) (e' := .fp8e4m3) x2 (Rect.unit (s := S2112x8192) o S64x512.size h)) (wScale x3 (q 3) (hq 3)) 3⟩]
    concatenates_S64x128_S64x128_S64x128_S64x128_S64x512_d1

/-- The weight tile of trip `k`: all 2112 rows of its 512 columns. -/
def wTile (k : Fin k0_t1_loop.trips) (x2 : Vec F S2112x8192 .fp8e4m3) (x3 : Vec F S17x64 .f32) : FVec F S2112x512 .bf16 :=
  concatenate S2112x512 0
     [⟨S128x512, wRow x2 x3 (k0_off3 k) (k0_off3_inb k) (fun g => k0_off4 k (BitVec.ofNat 32 g.val)) (k0_off4_inb k)⟩,
      ⟨S128x512, wRow x2 x3 (k0_off5 k) (k0_off5_inb k) (fun g => k0_off6 k (BitVec.ofNat 32 g.val)) (k0_off6_inb k)⟩,
      ⟨S128x512, wRow x2 x3 (k0_off7 k) (k0_off7_inb k) (fun g => k0_off8 k (BitVec.ofNat 32 g.val)) (k0_off8_inb k)⟩,
      ⟨S128x512, wRow x2 x3 (k0_off9 k) (k0_off9_inb k) (fun g => k0_off10 k (BitVec.ofNat 32 g.val)) (k0_off10_inb k)⟩,
      ⟨S128x512, wRow x2 x3 (k0_off11 k) (k0_off11_inb k) (fun g => k0_off12 k (BitVec.ofNat 32 g.val)) (k0_off12_inb k)⟩,
      ⟨S128x512, wRow x2 x3 (k0_off13 k) (k0_off13_inb k) (fun g => k0_off14 k (BitVec.ofNat 32 g.val)) (k0_off14_inb k)⟩,
      ⟨S128x512, wRow x2 x3 (k0_off15 k) (k0_off15_inb k) (fun g => k0_off16 k (BitVec.ofNat 32 g.val)) (k0_off16_inb k)⟩,
      ⟨S128x512, wRow x2 x3 (k0_off17 k) (k0_off17_inb k) (fun g => k0_off18 k (BitVec.ofNat 32 g.val)) (k0_off18_inb k)⟩,
      ⟨S128x512, wRow x2 x3 (k0_off19 k) (k0_off19_inb k) (fun g => k0_off20 k (BitVec.ofNat 32 g.val)) (k0_off20_inb k)⟩,
      ⟨S128x512, wRow x2 x3 (k0_off21 k) (k0_off21_inb k) (fun g => k0_off22 k (BitVec.ofNat 32 g.val)) (k0_off22_inb k)⟩,
      ⟨S128x512, wRow x2 x3 (k0_off23 k) (k0_off23_inb k) (fun g => k0_off24 k (BitVec.ofNat 32 g.val)) (k0_off24_inb k)⟩,
      ⟨S128x512, wRow x2 x3 (k0_off25 k) (k0_off25_inb k) (fun g => k0_off26 k (BitVec.ofNat 32 g.val)) (k0_off26_inb k)⟩,
      ⟨S128x512, wRow x2 x3 (k0_off27 k) (k0_off27_inb k) (fun g => k0_off28 k (BitVec.ofNat 32 g.val)) (k0_off28_inb k)⟩,
      ⟨S128x512, wRow x2 x3 (k0_off29 k) (k0_off29_inb k) (fun g => k0_off30 k (BitVec.ofNat 32 g.val)) (k0_off30_inb k)⟩,
      ⟨S128x512, wRow x2 x3 (k0_off31 k) (k0_off31_inb k) (fun g => k0_off32 k (BitVec.ofNat 32 g.val)) (k0_off32_inb k)⟩,
      ⟨S128x512, wRow x2 x3 (k0_off33 k) (k0_off33_inb k) (fun g => k0_off34 k (BitVec.ofNat 32 g.val)) (k0_off34_inb k)⟩,
      ⟨S64x512, wRow' x2 x3 (k0_off35 k) (k0_off35_inb k) (fun g => k0_off36 k (BitVec.ofNat 32 g.val)) (k0_off36_inb k)⟩]
    concatenates_S128x512_S128x512_S128x512_S128x512_S128x512_S128x512_S128x512_S128x512_S128x512_S128x512_S128x512_S128x512_S128x512_S128x512_S128x512_S128x512_S64x512_S2112x512_d0

/-! ## The state of the loop -/

/-- The columns of trip `k`. -/
def xTile (k : Fin k0_t1_loop.trips) (x1 : Vec F S256x8192 .bf16) : Vec F S256x512 .bf16 :=
  View.ld (Val := Elt F) (e' := .bf16) x1 (Rect.unit (s := S256x8192) (k0_off1 k) S256x512.size (k0_off1_inb k))

/-- The four stores of codes of trip `k`, the last first. -/
def codesL (k : Fin k0_t1_loop.trips) (x1 : Vec F S256x8192 .bf16) : List (View.Piece (Elt F) S256x8192 .fp8e4m3) :=
  [⟨Rect.unit (k0_off2 k 384#32) S256x128.size (k0_off2_inb k 3), quant (xTile k x1) 3⟩,
   ⟨Rect.unit (k0_off2 k 256#32) S256x128.size (k0_off2_inb k 2), quant (xTile k x1) 2⟩,
   ⟨Rect.unit (k0_off2 k 128#32) S256x128.size (k0_off2_inb k 1), quant (xTile k x1) 1⟩,
   ⟨Rect.unit (k0_off2 k 0#32) S256x128.size (k0_off2_inb k 0), quant (xTile k x1) 0⟩]

/-- The accumulator after trip `k`, from the accumulator `a` before its addition. -/
def accNew (k : Fin k0_t1_loop.trips) (x1 : Vec F S256x8192 .bf16) (x2 : Vec F S2112x8192 .fp8e4m3) (x3 : Vec F S17x64 .f32)
    (a : Vec F S256x2112 .f32) : FVec F S256x2112 .f32 :=
  k0_pay116 (xDeq (xTile k x1)) (wTile k x2 x3) a

/-- The array of scales before trip `k`. -/
def stS (x1 : Vec F S256x8192 .bf16) : ℕ → Vec F S256x64 .f32
  | 0 => k0_pay117
  | k + 1 => if h : k < k0_t1_loop.trips then sNew ⟨k, h⟩ (xTile ⟨k, h⟩ x1) (stS x1 k) else stS x1 k

/-- The accumulator before trip `k` (from the second trip on it is the scratch buffer's contents; the first trip
    starts by clearing the buffer). -/
def stA (x1 : Vec F S256x8192 .bf16) (x2 : Vec F S2112x8192 .fp8e4m3) (x3 : Vec F S17x64 .f32) : ℕ → Vec F S256x2112 .f32
  | 0 => k0_pay115
  | k + 1 => if h : k < k0_t1_loop.trips then accNew ⟨k, h⟩ x1 x2 x3 (stA x1 x2 x3 k) else stA x1 x2 x3 k

end Cert.KernelIdeal.Hand

end
-- ==== Proof.KernelIdealTrip.lean ====
module

public import proofs.«01_k».proof.Proof.KernelIdealTile
public import Idealize.ShloMosaic.Lib.Tactic

@[expose] public section

/-!
# The run of one trip of the loop

What the buffers of the codes, the scales and the accumulator hold before trip `k`, as functions of what they hold
before the loop, and that one trip takes the contents before it to the contents after it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

section Contents

variable (c : Dev nD) (arg9 : Memref sig .tc .vmem S256x8192 .fp8e4m3) (arg10 : Memref sig .tc .vmem S256x64 .f32)
  (arg11 : Memref sig .tc .vmem S256x2112 .f32)

/-- The codes' buffer before trip `k`. -/
def b9 (x1 : Vec F S256x8192 .bf16) (f : Bf (F := F) c arg9) : ℕ → Bf (F := F) c arg9
  | 0 => f
  | k + 1 => if h : k < k0_t1_loop.trips then arg9.view.writes (Elt F) (b9 x1 f k) (codesL ⟨k, h⟩ x1) else b9 x1 f k

/-- The scales' buffer before trip `k`. -/
def b10 (x1 : Vec F S256x8192 .bf16) (f : Bf (F := F) c arg10) : ℕ → Bf (F := F) c arg10
  | 0 => f
  | k + 1 => if h : k < k0_t1_loop.trips then
      arg10.view.writes (Elt F) (b10 x1 f k) [⟨Rect.unit ![0, 0] S256x64.size inb_S256x64_S256x64_0_0,
        sNew ⟨k, h⟩ (xTile ⟨k, h⟩ x1) (View.readAt (Elt F) arg10.view (Rect.unit ![0, 0] S256x64.size inb_S256x64_S256x64_0_0).toLoadRect (b10 x1 f k))⟩]
    else b10 x1 f k

/-- The scratch buffer when trip `k` adds to it: the first trip clears it. -/
def clr (k : Fin k0_t1_loop.trips) (f : Bf (F := F) c arg11) : Bf (F := F) c arg11 :=
  if k.val = 0 then arg11.view.writes (Elt F) f [⟨Rect.unit ![0, 0] S256x2112.size inb_S256x2112_S256x2112_0_0, k0_pay115⟩] else f

/-- The scratch buffer before trip `k`. -/
def b11 (x1 : Vec F S256x8192 .bf16) (x2 : Vec F S2112x8192 .fp8e4m3) (x3 : Vec F S17x64 .f32) (f : Bf (F := F) c arg11) : ℕ → Bf (F := F) c arg11
  | 0 => f
  | k + 1 => if h : k < k0_t1_loop.trips then
      arg11.view.writes (Elt F) (clr c arg11 ⟨k, h⟩ (b11 x1 x2 x3 f k)) [⟨Rect.unit ![0, 0] S256x2112.size inb_S256x2112_S256x2112_0_0,
        accNew ⟨k, h⟩ x1 x2 x3 (View.readAt (Elt F) arg11.view (Rect.unit ![0, 0] S256x2112.size inb_S256x2112_S256x2112_0_0).toLoadRect (clr c arg11 ⟨k, h⟩ (b11 x1 x2 x3 f k)))⟩]
    else b11 x1 x2 x3 f k

end Contents

/-- The kernel's test for the first trip. -/
theorem first_iff : ∀ k : Fin k0_t1_loop.trips,
    Iff (Scalar.cmpi .ne (Scalar.extui (Scalar.cmpi .eq (Scf.iv 0#32 1#32 k) 0#32) : BitVec 32) 0#32 = 1#1) (k.val = 0) := by decide +kernel

section Trip

variable (c : Dev nD) (i : grid0.Coords) (arg1 : Memref sig .tc .vmem S256x8192 .bf16) (harg1 : arg1.IsWhole) (arg2 : Memref sig .tc .vmem S2112x8192 .fp8e4m3) (harg2 : arg2.IsWhole) (arg3 : Memref sig .tc .smem S17x64 .f32) (harg3 : arg3.IsWhole)
  (arg4 : Memref sig .tc .vmem S1x1536 .bf16) (harg4 : arg4.IsWhole) (arg5 : Memref sig .tc .vmem S1x512 .bf16) (harg5 : arg5.IsWhole)
  (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole)
  (arg9 : Memref sig .tc .vmem S256x8192 .fp8e4m3) (harg9 : arg9.IsWhole) (arg10 : Memref sig .tc .vmem S256x64 .f32) (harg10 : arg10.IsWhole) (arg11 : Memref sig .tc .vmem S256x2112 .f32) (harg11 : arg11.IsWhole)

set_option maxHeartbeats 4000000 in
/-- One trip. -/
theorem trip (k : Fin k0_t1_loop.trips) (f1 : Bf (F := F) c arg1) (f2 : Bf (F := F) c arg2) (f3 : Bf (F := F) c arg3)
    (f9 : Bf (F := F) c arg9) (f10 : Bf (F := F) c arg10) (f11 : Bf (F := F) c arg11) (Q : Unit → sProp 𝕄) :
    iprop(pt c arg1 f1 ∗ pt c arg2 f2 ∗ pt c arg3 f3 ∗ pt c arg9 f9 ∗ pt c arg10 f10 ∗ pt c arg11 f11
      ∗ (iprop(pt c arg1 f1 ∗ pt c arg2 f2 ∗ pt c arg3 f3
          ∗ pt c arg9 (arg9.view.writes (Elt F) f9 (codesL k (arg1.view.read (Elt F) f1)))
          ∗ pt c arg10 (arg10.view.writes (Elt F) f10 [⟨Rect.unit ![0, 0] S256x64.size inb_S256x64_S256x64_0_0,
              sNew k (xTile k (arg1.view.read (Elt F) f1)) (View.readAt (Elt F) arg10.view (Rect.unit ![0, 0] S256x64.size inb_S256x64_S256x64_0_0).toLoadRect f10)⟩])
          ∗ pt c arg11 (arg11.view.writes (Elt F) (clr c arg11 k f11) [⟨Rect.unit ![0, 0] S256x2112.size inb_S256x2112_S256x2112_0_0,
              accNew k (arg1.view.read (Elt F) f1) (arg2.view.read (Elt F) f2) (arg3.view.read (Elt F) f3)
                (View.readAt (Elt F) arg11.view (Rect.unit ![0, 0] S256x2112.size inb_S256x2112_S256x2112_0_0).toLoadRect (clr c arg11 k f11))⟩])) -∗ Q ()))
    ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 (iota .tc S256x64 32 [1] iota_S256x64_d1_w32) k ()) Q := by
  unfold k0_t1_body
  simp only [k0_part24_eq_skeleton]
  iintro ⟨H1, H2, H3, H9, H10, H11, Hk⟩
  sl_exec
  have e : (if hc : trip.sl.v1080 k = 1#1 then arg11.view.writes (Elt F) f11 [⟨Rect.unit ![0, 0] S256x2112.size inb_S256x2112_S256x2112_0_0, k0_pay115⟩] else f11)
      = clr c arg11 k f11 := by
    unfold clr
    by_cases h : k.val = 0
    · rw [if_pos h]; exact dif_pos ((first_iff k).2 h)
    · rw [if_neg h]; exact dif_neg (fun hc => h ((first_iff k).1 hc))
  have e9 : trip.sl.H9_4 c arg1 k f1 = codesL k (arg1.view.read (Elt F) f1) := rfl
  have e10 : trip.sl.H10_1 c arg1 arg10 k f1 f10 = [⟨Rect.unit ![0, 0] S256x64.size inb_S256x64_S256x64_0_0,
      sNew k (xTile k (arg1.view.read (Elt F) f1)) (View.readAt (Elt F) arg10.view (Rect.unit ![0, 0] S256x64.size inb_S256x64_S256x64_0_0).toLoadRect f10)⟩] := rfl
  have ex : trip.sl.r_31 c arg1 k f1 = xDeq (xTile k (arg1.view.read (Elt F) f1)) := rfl
  have ew : trip.sl.v1076 c arg2 arg3 k f2 f3 = wTile k (arg2.view.read (Elt F) f2) (arg3.view.read (Elt F) f3) := rfl
  have ea : trip.sl.v1081 c arg11 k f11 = View.readAt (Elt F) arg11.view (Rect.unit ![0, 0] S256x2112.size inb_S256x2112_S256x2112_0_0).toLoadRect (clr c arg11 k f11) := by
    rw [← e]; rfl
  rw [e, e9, e10, ex, ew, ea]
  sl_step
  iapply Hk
  isplitl [H1]; · iexact H1
  isplitl [H2]; · iexact H2
  isplitl [H3]; · iexact H3
  isplitl [H9]; · iexact H9
  isplitl [H10]; · iexact H10
  iexact H11

set_option warn.classDefReducibility false in
/-- The loop's invariant: the inputs as they are, the three buffers at their contents before trip `k`. -/
@[sl_loop] def loopInv (f1 : Bf (F := F) c arg1) (f2 : Bf (F := F) c arg2) (f3 : Bf (F := F) c arg3)
    (f9 : Bf (F := F) c arg9) (f10 : Bf (F := F) c arg10) (f11 : Bf (F := F) c arg11) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 (iota .tc S256x64 32 [1] iota_S256x64_d1_w32) where
  inv k _ := iprop(pt c arg1 f1 ∗ pt c arg2 f2 ∗ pt c arg3 f3
    ∗ pt c arg9 (b9 c arg9 (arg1.view.read (Elt F) f1) f9 k) ∗ pt c arg10 (b10 c arg10 (arg1.view.read (Elt F) f1) f10 k)
    ∗ pt c arg11 (b11 c arg11 (arg1.view.read (Elt F) f1) (arg2.view.read (Elt F) f2) (arg3.view.read (Elt F) f3) f11 k))
  step k _ := by
    have hk : k.val < k0_t1_loop.trips := k.isLt
    rw [b9, b10, b11, dif_pos hk, dif_pos hk, dif_pos hk]
    iintro ⟨H1, H2, H3, H9, H10, H11⟩
    iapply (trip c i arg1 harg1 arg2 harg2 arg3 harg3 arg4 harg4 arg5 harg5 arg6 harg6 arg7 harg7 arg8 harg8 arg9 harg9 arg10 harg10 arg11 harg11 k f1 f2 f3 _ _ _ _)
    isplitl [H1]; · iexact H1
    isplitl [H2]; · iexact H2
    isplitl [H3]; · iexact H3
    isplitl [H9]; · iexact H9
    isplitl [H10]; · iexact H10
    isplitl [H11]; · iexact H11
    iintro ⟨H1, H2, H3, H9, H10, H11⟩
    isplitl [H1]; · iexact H1
    isplitl [H2]; · iexact H2
    isplitl [H3]; · iexact H3
    isplitl [H9]; · iexact H9
    isplitl [H10]; · iexact H10
    iexact H11

end Trip

end Cert.KernelIdeal.Hand

end
-- ==== Proof.KernelIdealState.lean ====
module

public import proofs.«01_k».proof.Proof.KernelIdealTrip
public import Idealize.ShloMosaic.Lib.WritesUnit
public import Idealize.ShloMosaic.Lib.VecWindow
public import Idealize.ShloMosaic.Lib.Pipeline.ValueKit

@[expose] public section

/-!
# What the loop leaves

The contents of the three buffers the loop writes, read through their views: the scales' buffer holds `stS`, the
scratch buffer `stA`, and the codes' buffer holds, in the columns of the trips run, the codes of their groups
(`codesAt`).
-/

set_option maxRecDepth 16384

noncomputable section

namespace Cert.KernelIdeal.Hand

open Cert.KernelIdeal Cert.KernelIdeal.Gen
open Idealize.ShloMosaic Idealize.ShloMosaic.TcCoe

variable {F : FTy → Type} [FloatOps F]

attribute [local irreducible] sNew accNew quant xTile

theorem trips_eq : k0_t1_loop.trips = 16 := by decide +kernel

/-- The trip, the group in it and the place in the group of a column. -/
def colTrip (j : Fin 8192) : Fin k0_t1_loop.trips := ⟨j.val / 512, by rw [trips_eq]; omega⟩
def colGroup (j : Fin 8192) : Fin 4 := ⟨j.val % 512 / 128, by omega⟩
def inGroup (y : S256x8192.Idx) : S256x128.Idx
  | ⟨0, _⟩ => y 0
  | ⟨1, _⟩ => (⟨(y 1).val % 128, Nat.mod_lt _ (by decide)⟩ : Fin 128)

/-- The codes of a block of rows: at each column those of its group. -/
def codesAt (x1 : Vec F S256x8192 .bf16) : Vec F S256x8192 .fp8e4m3 := fun y =>
  quant (xTile (colTrip (y 1)) x1) (colGroup (y 1)) (inGroup y)

theorem readAt_full {S : Shape} {sp : Space} {e : EltTy} (M : Memref sig .tc sp S e) (o : Fin S.rank → ℕ) (ho : o = fun _ => 0)
    (h : ∀ a, o a + S.size a ≤ S.size a) (f : M.view.ty.Contents (Elt F)) :
    View.readAt (Elt F) M.view (Rect.unit o S.size h).toLoadRect f = M.view.read (Elt F) f := by
  subst ho
  exact View.ld_unit_zero rfl h _

section

variable (c : Dev nD) (arg9 : Memref sig .tc .vmem S256x8192 .fp8e4m3) (arg10 : Memref sig .tc .vmem S256x64 .f32)
  (arg11 : Memref sig .tc .vmem S256x2112 .f32)

theorem zero2 : (![0, 0] : Fin 2 → ℕ) = fun _ => 0 := by funext a; fin_cases a <;> rfl

theorem read_b10 (x1 : Vec F S256x8192 .bf16) (f : Bf (F := F) c arg10) (hf : arg10.view.read (Elt F) f = k0_pay117) (k : ℕ) :
    arg10.view.read (Elt F) (b10 c arg10 x1 f k) = stS x1 k := by
  induction k with
  | zero => exact hf
  | succ k ih =>
    rw [b10, stS]
    by_cases h : k < k0_t1_loop.trips
    · rw [dif_pos h, dif_pos h]
      refine (View.read_writes_full _ _ _ _ _).trans ?_
      exact congrArg (sNew ⟨k, h⟩ (xTile ⟨k, h⟩ x1)) ((readAt_full arg10 _ zero2 _ _).trans ih)
    · rw [dif_neg h, dif_neg h, ih]

theorem clr_zero (h : 0 < k0_t1_loop.trips) (f : Bf (F := F) c arg11) :
    clr c arg11 ⟨0, h⟩ f = arg11.view.writes (Elt F) f [⟨Rect.unit ![0, 0] S256x2112.size inb_S256x2112_S256x2112_0_0, k0_pay115⟩] :=
  if_pos rfl
theorem clr_succ (k : ℕ) (h : k + 1 < k0_t1_loop.trips) (f : Bf (F := F) c arg11) : clr c arg11 ⟨k + 1, h⟩ f = f :=
  if_neg (Nat.succ_ne_zero k)

theorem read_b11_step (x1 : Vec F S256x8192 .bf16) (x2 : Vec F S2112x8192 .fp8e4m3) (x3 : Vec F S17x64 .f32) (f : Bf (F := F) c arg11) (k : ℕ)
    (hk : k < k0_t1_loop.trips)
    (key : arg11.view.read (Elt F) (clr c arg11 ⟨k, hk⟩ (b11 c arg11 x1 x2 x3 f k)) = stA x1 x2 x3 k) :
    arg11.view.read (Elt F) (b11 c arg11 x1 x2 x3 f (k + 1)) = stA x1 x2 x3 (k + 1) := by
  have e1 : b11 c arg11 x1 x2 x3 f (k + 1) = _ := dif_pos hk
  have e2 : stA x1 x2 x3 (k + 1) = accNew ⟨k, hk⟩ x1 x2 x3 (stA x1 x2 x3 k) := dif_pos hk
  rw [e1, e2]
  refine (View.read_writes_full _ _ _ _ _).trans ?_
  exact congrArg (accNew ⟨k, hk⟩ x1 x2 x3) ((readAt_full arg11 _ zero2 _ _).trans key)

theorem read_b11 (x1 : Vec F S256x8192 .bf16) (x2 : Vec F S2112x8192 .fp8e4m3) (x3 : Vec F S17x64 .f32) (f : Bf (F := F) c arg11) (k : ℕ)
    (hk : k < k0_t1_loop.trips) :
    arg11.view.read (Elt F) (b11 c arg11 x1 x2 x3 f (k + 1)) = stA x1 x2 x3 (k + 1) := by
  have key : arg11.view.read (Elt F) (clr c arg11 ⟨k, hk⟩ (b11 c arg11 x1 x2 x3 f k)) = stA x1 x2 x3 k := by
    induction k with
    | zero => rw [clr_zero, stA]; exact View.read_writes_full _ _ _ _ _
    | succ k ih => rw [clr_succ]; exact read_b11_step c arg11 x1 x2 x3 f k (Nat.lt_of_succ_lt hk) (ih _)
  exact read_b11_step c arg11 x1 x2 x3 f k hk key

/-- A store of group `g` of trip `k` gives the codes of its columns. -/
theorem codes_hit (x1 : Vec F S256x8192 .bf16) (f : arg9.view.ty.Contents (Elt F)) (k : Fin k0_t1_loop.trips) (g : Fin 4) (o : Fin 2 → ℕ)
    (ho : o = ![0, 512 * k.val + 128 * g.val]) (inb : ∀ a, o a + S256x128.size a ≤ S256x8192.size a)
    (L : List (View.Piece (Elt F) S256x8192 .fp8e4m3)) (y : S256x8192.Idx)
    (hL : ¬ (512 * k.val + 128 * g.val ≤ (y 1).val ∧ (y 1).val < 512 * k.val + 128 * g.val + 128) →
      arg9.view.read (Elt F) (arg9.view.writes (Elt F) f L) y = codesAt x1 y) :
    arg9.view.read (Elt F) (arg9.view.writes (Elt F) f ((⟨Rect.unit o S256x128.size inb, quant (xTile k x1) g⟩ : View.Piece (Elt F) S256x8192 .fp8e4m3) :: L)) y
      = codesAt x1 y := by
  have hk : k.val < 16 := Nat.lt_of_lt_of_eq k.isLt trips_eq
  have hg := g.isLt
  have hy : (y 1).val < 8192 := (y 1).isLt
  by_cases h : 512 * k.val + 128 * g.val ≤ (y 1).val ∧ (y 1).val < 512 * k.val + 128 * g.val + 128
  · refine (View.read_writes_cons_unit_of_mem _ _ inb _ L y (inGroup y) ho ?_).trans ?_
    · intro a
      fin_cases a
      · show (y 0).val = 0 + (y 0).val; omega
      · show (y 1).val = 512 * k.val + 128 * g.val + (y 1).val % 128; omega
    · have e1 : colTrip (y 1) = k := Fin.ext (by show (y 1).val / 512 = k.val; omega)
      have e2 : colGroup (y 1) = g := Fin.ext (by show (y 1).val % 512 / 128 = g.val; omega)
      unfold codesAt; rw [e1, e2]
  · refine (View.read_writes_cons_unit_of_not_mem _ _ inb _ L y ho 1 ?_).trans (hL h)
    show (y 1).val < 512 * k.val + 128 * g.val ∨ 512 * k.val + 128 * g.val + 128 ≤ (y 1).val
    omega

theorem read_b9 (x1 : Vec F S256x8192 .bf16) (f : Bf (F := F) c arg9) (k : ℕ) (hk : k ≤ k0_t1_loop.trips) (y : S256x8192.Idx)
    (hy : (y 1).val < 512 * k) : arg9.view.read (Elt F) (b9 c arg9 x1 f k) y = codesAt x1 y := by
  induction k with
  | zero => exact absurd hy (by omega)
  | succ k ih =>
    have e1 : b9 c arg9 x1 f (k + 1) = _ := dif_pos (Nat.lt_of_succ_le hk)
    rw [e1]
    refine codes_hit arg9 x1 _ ⟨k, hk⟩ 3 _ (k0_off2_eq ⟨k, hk⟩ 3) _ _ y fun h3 => ?_
    refine codes_hit arg9 x1 _ ⟨k, hk⟩ 2 _ (k0_off2_eq ⟨k, hk⟩ 2) _ _ y fun h2 => ?_
    refine codes_hit arg9 x1 _ ⟨k, hk⟩ 1 _ (k0_off2_eq ⟨k, hk⟩ 1) _ _ y fun h1 => ?_
    refine codes_hit arg9 x1 _ ⟨k, hk⟩ 0 _ (k0_off2_eq ⟨k, hk⟩ 0) _ _ y fun h0 => ?_
    refine ih (Nat.le_of_succ_le hk) ?_
    simp only [show ((3 : Fin 4) : ℕ) = 3 from rfl, show ((2 : Fin 4) : ℕ) = 2 from rfl, show ((1 : Fin 4) : ℕ) = 1 from rfl,
      show ((0 : Fin 4) : ℕ) = 0 from rfl] at h0 h1 h2 h3
    omega

end

/-! ## The five results of a block of rows -/

variable (x1 : Vec F S256x8192 .bf16) (x2 : Vec F S2112x8192 .fp8e4m3) (x3 : Vec F S17x64 .f32) (x4 : Vec F S1x1536 .bf16) (x5 : Vec F S1x512 .bf16)

/-- The three parts of the accumulator. -/
def accQ : Vec F S256x1536 .f32 := View.ld (Val := Elt F) (e' := .f32) (stA x1 x2 x3 16) (Rect.unit (s := S256x2112) ![0, 0] S256x1536.size inb_S256x2112_S256x1536_0_0)
def accKv : Vec F S256x512 .f32 := View.ld (Val := Elt F) (e' := .f32) (stA x1 x2 x3 16) (Rect.unit (s := S256x2112) ![0, 1536] S256x512.size inb_S256x2112_S256x512_0_1536)
def accPe : Vec F S256x64 .f32 := View.ld (Val := Elt F) (e' := .f32) (stA x1 x2 x3 16) (Rect.unit (s := S256x2112) ![0, 2048] S256x64.size inb_S256x2112_S256x64_0_2048)

def outQ : Vec F S256x1536 .bf16 := k0_pay118 (accQ x1 x2 x3) x4
def outKv : Vec F S256x512 .bf16 := k0_pay1 (accKv x1 x2 x3) (k0_pay119 x5) (k0_pay120 (accKv x1 x2 x3))
def outPe : Vec F S256x64 .bf16 := k0_pay2 (accPe x1 x2 x3)
def outC : Vec F S256x8192 .fp8e4m3 := codesAt x1
def outS : Vec F S256x64 .f32 := stS x1 16

end Cert.KernelIdeal.Hand

end
-- ==== Proof.KernelIdealBody.lean ====
module

public import proofs.«01_k».proof.Proof.KernelIdealState
public import Idealize.ShloMosaic.Lib.Pipeline.FrameBody
public import Idealize.ShloMosaic.Lib.Claim

@[expose] public section

/-!
# The run of the kernel

The body at one block of rows leaves the five results of the block; the launch runs it at the twelve blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] sNew accNew quant xTile

section Kernel

variable (c : Dev nD) (i : grid0.Coords) (arg1 : Memref sig .tc .vmem S256x8192 .bf16) (harg1 : arg1.IsWhole) (arg2 : Memref sig .tc .vmem S2112x8192 .fp8e4m3) (harg2 : arg2.IsWhole) (arg3 : Memref sig .tc .smem S17x64 .f32) (harg3 : arg3.IsWhole)
  (arg4 : Memref sig .tc .vmem S1x1536 .bf16) (harg4 : arg4.IsWhole) (arg5 : Memref sig .tc .vmem S1x512 .bf16) (harg5 : arg5.IsWhole)
  (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole)
  (arg9 : Memref sig .tc .vmem S256x8192 .fp8e4m3) (harg9 : arg9.IsWhole) (arg10 : Memref sig .tc .vmem S256x64 .f32) (harg10 : arg10.IsWhole) (arg11 : Memref sig .tc .vmem S256x2112 .f32) (harg11 : arg11.IsWhole)

set_option maxHeartbeats 4000000 in
/-- The body on whole staging memrefs: the inputs stay, each output holds its result, the scratch is given back. -/
theorem sound_kernel (x1 : Vec F S256x8192 .bf16) (x2 : Vec F S2112x8192 .fp8e4m3) (x3 : Vec F S17x64 .f32) (x4 : Vec F S1x1536 .bf16) (x5 : Vec F S1x512 .bf16)
    (f11 : Bf (F := F) c arg11) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ pt c arg11 f11
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outQ x1 x2 x3 x4) ∗ owns (c : Thread nD τ) arg7 fullShare (outKv x1 x2 x3 x5) ∗ owns (c : Thread nD τ) arg8 fullShare (outPe x1 x2 x3) ∗ owns (c : Thread nD τ) arg9 fullShare (outC x1) ∗ owns (c : Thread nD τ) arg10 fullShare (outS x1) ∗ (∃ f, pt c arg11 f)) -∗ K ⟨⟩))
    ⊢ wp frame (wpE (defs₀ (F := F)) Variants.none c none) Set.univ (cc0_mla_a_proj (F := F) i arg1 harg1 arg2 harg2 arg3 harg3 arg4 harg4 arg5 harg5 arg6 harg6 arg7 harg7 arg8 harg8 arg9 harg9 arg10 harg10 arg11 harg11) K := by
  simp only [cc0_mla_a_proj_eq_skeleton]; unfold cc0_mla_a_proj_skel
  simp only [k0_part25_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, H11, Hk⟩
  subst hf1 hf2 hf3 hf4 hf5
  sl_exec
  sl_step
  have hA : arg11.view.read (Elt F) (b11 c arg11 (arg1.view.read (Elt F) f1) (arg2.view.read (Elt F) f2) (arg3.view.read (Elt F) f3) f11 16)
      = stA (arg1.view.read (Elt F) f1) (arg2.view.read (Elt F) f2) (arg3.view.read (Elt F) f3) 16 :=
    read_b11 c arg11 _ _ _ f11 15 (by rw [trips_eq]; decide)
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    exact congrArg₂ (fun a b => k0_pay118 (View.ld (Val := Elt F) (e' := .f32) a (Rect.unit (s := S256x2112) ![0, 0] S256x1536.size inb_S256x2112_S256x1536_0_0)) b)
      hA (readAt_full arg4 _ zero2 _ _)
  isplitl [H7]
  · iexists _; isplitr
    swap; · iexact H7
    ipureintro
    refine (View.read_writes_full _ _ _ _ _).trans ?_
    exact congrArg₂ (fun a b => k0_pay1 (View.ld (Val := Elt F) (e' := .f32) a (Rect.unit (s := S256x2112) ![0, 1536] S256x512.size inb_S256x2112_S256x512_0_1536)) (k0_pay119 b)
      (k0_pay120 (View.ld (Val := Elt F) (e' := .f32) a (Rect.unit (s := S256x2112) ![0, 1536] S256x512.size inb_S256x2112_S256x512_0_1536))))
      hA (readAt_full arg5 _ zero2 _ _)
  isplitl [H8]
  · iexists _; isplitr
    swap; · iexact H8
    ipureintro
    refine (View.read_writes_full _ _ _ _ _).trans ?_
    exact congrArg (fun a => k0_pay2 (View.ld (Val := Elt F) (e' := .f32) a (Rect.unit (s := S256x2112) ![0, 2048] S256x64.size inb_S256x2112_S256x64_0_2048))) hA
  isplitl [H9]
  · iexists _; isplitr
    swap; · iexact H9
    ipureintro
    exact funext fun y => read_b9 c arg9 _ f9 16 (le_of_eq trips_eq.symm) y (y 1).isLt
  isplitl [H10]
  · iexists _; isplitr
    swap; · iexact H10
    ipureintro
    exact read_b10 c arg10 _ _ (View.read_writes_full _ _ _ _ _) 16
  iexists _; iexact H11

end Kernel

/-! ## The pipeline's proof data -/

variable (m : (ℓ : Loc nD τ sig) → Buf (Elt F) ℓ) (ρ : Dev nD → PrngReg)

/-- What each staging buffer holds after the body at point `t`: the inputs their blocks, the outputs the results of the
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (iblk m c 0 t) (iblk m c 1 t) (iblk m c 2 t) (iblk m c 3 t)
    | ⟨6, _⟩ => outKv (iblk m c 0 t) (iblk m c 1 t) (iblk m c 2 t) (iblk m c 4 t)
    | ⟨7, _⟩ => outPe (iblk m c 0 t) (iblk m c 1 t) (iblk m c 2 t)
    | ⟨8, _⟩ => outC (iblk m c 0 t)
    | ⟨9, _⟩ => outS (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outQ (iblk m c 0 t) (iblk m c 1 t) (iblk m c 2 t) (iblk m c 3 t) := by dsimp only [dats]
theorem after0_6 (c : Dev nD) (t : Fin cfg0.N) : (dats m 0 c).after 6 t = outKv (iblk m c 0 t) (iblk m c 1 t) (iblk m c 2 t) (iblk m c 4 t) := by dsimp only [dats]
theorem after0_7 (c : Dev nD) (t : Fin cfg0.N) : (dats m 0 c).after 7 t = outPe (iblk m c 0 t) (iblk m c 1 t) (iblk m c 2 t) := by dsimp only [dats]
theorem after0_8 (c : Dev nD) (t : Fin cfg0.N) : (dats m 0 c).after 8 t = outC (iblk m c 0 t) := by dsimp only [dats]
theorem after0_9 (c : Dev nD) (t : Fin cfg0.N) : (dats m 0 c).after 9 t = outS (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The scratch buffer as the launch holds it and as the body does. -/
theorem scratch_pt (c : Dev nD) (f : Bf (F := F) c (Memref.whole cc0_scratch0)) :
    pt c (Memref.whole cc0_scratch0) f = (((c : Thread nD τ).loc cc0_scratch0) ↦{fullShare} f : sProp 𝕄) := by
  have e : (Memref.whole (sig := sig) cc0_scratch0).view.set = Finset.univ := by rw [Memref.view_whole, View.set_whole]
  unfold pt
  rw [e]

theorem scratch_eq (c : Dev nD) :
    (Pipeline.ΦA (Val := Elt F) (U := UR sig nD τ) spec0 c : sProp 𝕄)
      = iprop((∃ f, pt c (Memref.whole cc0_scratch0) f) ∗ ∃ r, prngReg c r) := by
  unfold Pipeline.ΦA
  rw [scopedRest0_eq]
  have e : (fun f : Bf (F := F) c (Memref.whole cc0_scratch0) => pt c (Memref.whole cc0_scratch0) f)
      = fun f => (((c : Thread nD τ).loc cc0_scratch0) ↦{fullShare} f : sProp 𝕄) := funext (scratch_pt c)
  exact (congrArg (fun Y => iprop((∃ f, Y f) ∗ ∃ r, prngReg c r)) e).symm

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  rw [scratch_eq]
  iintro ⟨⟨⟨%f11, H11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ (Memref.whole cc0_scratch0) (Memref.isWhole_whole _) (iblk m c 0 t) (iblk m c 1 t) (iblk m c 2 t) (iblk m c 3 t) (iblk m c 4 t) f11 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H11]; · iexact H11
  iintro ⟨H0, H1, H2, H3, H4, H5, H6, H7, H8, H9, ⟨%f, H11⟩⟩
  isplitl [H11 Hr]
  · isplitl [H11]
    · iexists f; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch ends, with every array of the pipeline at what its proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Spec.lean ====
module

public import Idealize.ShloMosaic.PureOps
public import Idealize.ShloMosaic.PureOps.Ideal.Laws

@[expose] public section

/-!
# The quantised projection of one row, over the extended reals

Both programs are read down to these functions of a row of activations: the reference for all rows at once, the kernel
tile by tile.
-/

noncomputable section

namespace Cert.Spec

open Idealize.ShloMosaic

/-- The largest absolute value of a group of 128. -/
def top (v : Fin 128 → EReal) : EReal := Finset.univ.fold max (Ideal.ofBits .f32 0xFF800000#32) fun l => max (v l) (-(v l))

/-- The largest absolute value over the largest code. -/
def ratio (v : Fin 128 → EReal) : EReal := top v * Ideal.ofBits .f32 0x3B124925#32

/-- One over the largest code, as a float. -/
theorem inv_eq : ∃ c : ℝ, Ideal.ofBits .f32 0x3B124925#32 = (c : EReal) ∧ 0 < c ∧ c < (2 : ℝ) ^ (-8 : ℤ) := by
  refine ⟨9586981 * ((2 : ℝ) ^ 32)⁻¹, ?_, by positivity, by norm_num⟩
  simp [Ideal.ofBits, Ideal.ieee]

theorem inv_ne : Ideal.ofBits .f32 0x3B124925#32 ≠ 0 := by
  obtain ⟨c, hc, h0, -⟩ := inv_eq
  rw [hc, ← EReal.coe_zero, Ne, EReal.coe_eq_coe_iff]
  exact h0.ne'

/-- The exponent of the scale: the least `e` with `m < 2 ^ e`, and zero of a group of zeros. -/
def expo (m : EReal) : EReal :=
  if m = 0 then 0
  else Ideal.liftRound Int.floor (Ideal.div (Ideal.log m) (Ideal.log (Ideal.ofBits .f32 0x40000000#32))) + 1

/-- The scale. -/
def up (m : EReal) : EReal := Ideal.exp2 (expo m)

/-- One over the scale. -/
def down (m : EReal) : EReal := Ideal.exp2 (0 - expo m)

/-- A number as a code: `d` is one over the scale. -/
def code (d v : EReal) : EReal := min (Ideal.ofBits .f32 0x43E00000#32) (max (Ideal.ofBits .f32 0xC3E00000#32) (v * d))

/-- Group `g` of a row. -/
def grp (x : Fin 8192 → EReal) (g : Fin 64) : Fin 128 → EReal := fun l => x ⟨g.val * 128 + l.val, by omega⟩

/-- The group of a column. -/
def gOf (k : Fin 8192) : Fin 64 := ⟨k.val / 128, by omega⟩

/-- The scales of a row. -/
def scales (x : Fin 8192 → EReal) (g : Fin 64) : EReal := up (ratio (grp x g))

/-- The codes of a row. -/
def codes (x : Fin 8192 → EReal) (k : Fin 8192) : EReal := code (down (ratio (grp x (gOf k)))) (x k)

/-- A row scaled back, times a column of weights scaled back. -/
def proj (x : Fin 8192 → EReal) (w : Fin 2112 → Fin 8192 → EReal) (s : Fin 17 → Fin 64 → EReal) (n : Fin 2112) : EReal :=
  ∑ k : Fin 8192, codes x k * scales x (gOf k) * (w n k * s ⟨n.val / 128, by omega⟩ (gOf k))

/-- A row over the root of its mean square, times `γ`: `d` is the length of the row. -/
def norm {n : ℕ} (d : EReal) (h γ : Fin n → EReal) (j : Fin n) : EReal :=
  h j * Ideal.rsqrt (Ideal.div (∑ i, h i * h i) d + Ideal.ofBits .f32 0x358637BD#32) * γ j

end Cert.Spec

end
-- ==== Proof.Exponent.lean ====
module

public import proofs.«01_k».proof.Proof.Spec
public import Idealize.ShloMosaic.Lib.Pointwise

@[expose] public section

/-!
# The exponent found bit by bit

The kernel finds the exponent field of a number `y` by a search: from the highest bit down, a bit is kept if the power
of two it gives is at most `y`.  The field found is the one whose power of two is the greatest at most `y`, so that the scale built from
it is the one the logarithm gives.
-/

noncomputable section

namespace Cert.Spec

open Idealize.ShloMosaic

/-- The number whose exponent field is `n` and whose fraction is zero. -/
def pow (n : ℕ) : EReal := Ideal.ofBits .f32 (BitVec.ofNat 32 n <<< (23 : ℕ))

theorem pow_fields : ∀ n : Fin 256,
    ((BitVec.ofNat 32 n.val <<< (23 : ℕ)).extractLsb' 31 1 == 1#1) = false
      ∧ ((BitVec.ofNat 32 n.val <<< (23 : ℕ)).extractLsb' 23 8).toNat = n.val
      ∧ ((BitVec.ofNat 32 n.val <<< (23 : ℕ)).extractLsb' 0 23).toNat = 0 := by decide +kernel

theorem ieee_of_fields (b : BitVec 32) (n : ℕ) (hs : (b.extractLsb' 31 1 == 1#1) = false) (he : (b.extractLsb' 23 8).toNat = n)
    (hf : (b.extractLsb' 0 23).toNat = 0) :
    Ideal.ieee 8 23 b = if n = 255 then ⊤ else if n = 0 then ((0 : ℝ) : EReal)
      else (((2 : ℝ) ^ ((n : ℤ) - 127) : ℝ) : EReal) := by
  unfold Ideal.ieee
  simp only [Nat.reduceAdd, hs, he, hf, Nat.reducePow, Nat.add_one_sub_one, Nat.reduceSub, Bool.false_eq_true, if_false, if_true]
  split_ifs
  · rfl
  · simp
  · congr 1
    push_cast
    rw [show (8388608 : ℝ) = (2 : ℝ) ^ (23 : ℤ) by norm_num, one_mul, ← zpow_add₀ (by norm_num)]
    congr 1
    omega

theorem pow_eq (n : ℕ) (h : 1 ≤ n) (h' : n ≤ 254) : pow n = (((2 : ℝ) ^ ((n : ℤ) - 127) : ℝ) : EReal) := by
  obtain ⟨a, b, c⟩ := pow_fields ⟨n, by omega⟩
  exact (ieee_of_fields _ n a b c).trans ((if_neg (by omega)).trans (if_neg (by omega)))

theorem pow_last : pow 255 = ⊤ := by
  obtain ⟨a, b, c⟩ := pow_fields ⟨255, by omega⟩
  exact (ieee_of_fields _ 255 a b c).trans (if_pos rfl)

/-- A step of the search: `n` with the bit `d`, if its power of two is at most `y`. -/
def keep (y : EReal) (d n : ℕ) : ℕ := if pow (n + d) ≤ y then n + d else n

/-- The field is in `[n, n + w)`. -/
def Within (y : EReal) (n w : ℕ) : Prop := n + w ≤ 256 ∧ (n = 0 ∨ pow n ≤ y) ∧ (n + w = 256 ∨ y < pow (n + w))

theorem within_keep (y : EReal) (n d : ℕ) (h : Within y n (d + d)) : Within y (keep y d n) d := by
  obtain ⟨a, b, c⟩ := h
  unfold keep
  split_ifs with q
  · exact ⟨by omega, .inr q, by rwa [Nat.add_assoc]⟩
  · exact ⟨by omega, b, .inr (not_le.mp q)⟩

/-- The field of `y`. -/
def found (y : EReal) : ℕ := keep y 1 (keep y 2 (keep y 4 (keep y 8 (keep y 16 (keep y 32 (keep y 64 (keep y 128 0)))))))

theorem within_found (y : EReal) : Within y (found y) 1 :=
  within_keep _ _ 1 (within_keep _ _ 2 (within_keep _ _ 4 (within_keep _ _ 8 (within_keep _ _ 16 (within_keep _ _ 32
    (within_keep _ _ 64 (within_keep _ _ 128 ⟨by omega, .inl rfl, .inl rfl⟩)))))))

theorem keep_le (y : EReal) (d n b : ℕ) (h : n ≤ b) : keep y d n ≤ b + d := by
  unfold keep; split_ifs <;> omega

/-- What the largest absolute value of a group over the largest code may be: zero or a normal number, and below `2 ^ 120`. -/
def Fine (y : EReal) : Prop := (y = 0 ∨ Ideal.ofBits .f32 0x00800000#32 ≤ y) ∧ y < (((2 : ℝ) ^ (120 : ℤ) : ℝ) : EReal)

/-- The exponent the kernel takes from a field. -/
def expOf (n : ℕ) : ℤ := if n = 0 then 0 else (n : ℤ) - 126

/-- Below `2 ^ 120` the field is at most 246. -/
theorem found_le (y : EReal) (h : y < (((2 : ℝ) ^ (120 : ℤ) : ℝ) : EReal)) : found y ≤ 246 := by
  obtain ⟨a, b, -⟩ := within_found y
  by_contra q
  rcases b with b | b
  · omega
  · by_cases e : found y = 255
    · rw [e, pow_last, top_le_iff] at b
      rw [b] at h
      exact absurd h not_top_lt
    · rw [pow_eq _ (by omega) (by omega)] at b
      have := EReal.coe_lt_coe_iff.mp (b.trans_lt h)
      rw [zpow_lt_zpow_iff_right₀ (by norm_num)] at this
      omega

theorem least_eq : Ideal.ofBits .f32 0x00800000#32 = (((2 : ℝ) ^ (-126 : ℤ) : ℝ) : EReal) := by
  have e : (0x00800000#32 : BitVec 32) = BitVec.ofNat 32 1 <<< (23 : ℕ) := by decide
  rw [e]; exact (pow_eq 1 le_rfl (by omega)).trans (by norm_num)

theorem two_eq : Ideal.ofBits .f32 0x40000000#32 = ((2 : ℝ) : EReal) := by
  have e : (0x40000000#32 : BitVec 32) = BitVec.ofNat 32 128 <<< (23 : ℕ) := by decide
  rw [e]; exact (pow_eq 128 (by omega) (by omega)).trans (by norm_num)

/-- The exponent by the logarithm is the exponent by the search. -/
theorem expo_eq (y : EReal) (h : Fine y) : expo y = ((expOf (found y) : ℝ) : EReal) := by
  have hle := found_le y h.2
  obtain ⟨-, b, c⟩ := within_found y
  have c : y < pow (found y + 1) := c.resolve_left (by omega)
  rw [pow_eq _ (by omega) (by omega)] at c
  unfold expo expOf
  rw [two_eq]
  obtain ⟨least, h⟩ := h
  rw [least_eq] at least
  by_cases n0 : found y = 0
  · rw [n0] at c
    have c : y < (((2 : ℝ) ^ (-126 : ℤ) : ℝ) : EReal) := by simpa using c
    rw [if_pos (least.resolve_right (not_le.mpr c)), if_pos n0]
    simp
  · have b : pow (found y) ≤ y := b.resolve_left n0
    rw [pow_eq _ (by omega) (by omega)] at b
    generalize found y = n at *
    induction y using EReal.rec with
    | bot => exact absurd b (not_le.mpr (EReal.bot_lt_coe _))
    | top => exact absurd h not_top_lt
    | coe x =>
      have b := EReal.coe_le_coe_iff.mp b
      have c := EReal.coe_lt_coe_iff.mp c
      have x0 : 0 < x := lt_of_lt_of_le (by positivity) b
      have l2 : 0 < Real.log 2 := Real.log_pos (by norm_num)
      have q : ¬ ((x : EReal) = 0) := by
        rw [← EReal.coe_zero, EReal.coe_eq_coe_iff]
        exact x0.ne'
      rw [if_neg q, if_neg n0]
      have e1 : Ideal.log (x : EReal) = ((Real.log x : ℝ) : EReal) := if_neg (not_le.mpr x0)
      have e2 : Ideal.log ((2 : ℝ) : EReal) = ((Real.log 2 : ℝ) : EReal) := if_neg (by norm_num)
      have e3 : Ideal.div ((Real.log x : ℝ) : EReal) ((Real.log 2 : ℝ) : EReal) = ((Real.log x / Real.log 2 : ℝ) : EReal) := by
        unfold Ideal.div
        rw [if_neg (by exact_mod_cast l2.ne'), ← EReal.coe_inv, ← EReal.coe_mul, div_eq_mul_inv]
      have e4 : ⌊Real.log x / Real.log 2⌋ = (n : ℤ) - 127 := by
        rw [Int.floor_eq_iff]
        constructor
        · rw [le_div_iff₀ l2]
          have := Real.log_le_log (by positivity) b
          rwa [Real.log_zpow] at this
        · rw [div_lt_iff₀ l2]
          have := Real.log_lt_log x0 c
          rw [Real.log_zpow] at this
          refine this.trans_eq ?_
          push_cast
          ring
      rw [e1, e2, e3]
      show ((⌊Real.log x / Real.log 2⌋ : ℝ) : EReal) + 1 = _
      rw [e4]
      have : (1 : EReal) = ((1 : ℝ) : EReal) := rfl
      rw [this, ← EReal.coe_add]
      congr 1
      push_cast
      ring

theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

/-- The scale from the field. -/
theorem up_eq (y : EReal) (h : Fine y) :
    up y = pow (if found y = 0 then 127 else found y + 1) := by
  have hle := found_le y h.2
  unfold up
  rw [expo_eq y h, exp2_int, expOf]
  split_ifs with n0
  · rw [pow_eq _ (by omega) (by omega)]; norm_num
  · rw [pow_eq _ (by omega) (by omega)]
    congr 2
    push_cast
    ring

/-- Its inverse from the field. -/
theorem down_eq (y : EReal) (h : Fine y) :
    down y = pow (if found y = 0 then 127 else 253 - found y) := by
  have hle := found_le y h.2
  unfold down
  have z : (0 : EReal) - ((expOf (found y) : ℝ) : EReal) = (((-expOf (found y) : ℤ) : ℝ) : EReal) := by
    rw [zero_sub, ← EReal.coe_neg]; push_cast; rfl
  rw [expo_eq y h, z, exp2_int, expOf]
  split_ifs with n0
  · rw [pow_eq _ (by omega) (by omega)]; norm_num
  · rw [pow_eq _ (by omega) (by omega)]
    congr 2
    omega

end Cert.Spec

end
-- ==== Proof.KernelIdealGroup.lean ====
module

public import proofs.«01_k».proof.Proof.KernelIdealState
public import proofs.«01_k».proof.Proof.Exponent
public import Idealize.ShloMosaic.Lib.Pointwise

@[expose] public section

/-!
# A group of the kernel, element by element

The scale the kernel builds from an exponent field, and the codes of a group, are those of `Cert.Spec`, as long as the
group's largest absolute value over the largest code is `Fine`: zero or a normal number, and below `2 ^ 120`.
-/

set_option maxRecDepth 16384

noncomputable section

namespace Cert.KernelIdeal.Hand

open Cert.KernelIdeal Cert.KernelIdeal.Gen Cert.Spec
open Idealize.ShloMosaic Idealize.ShloMosaic.TcCoe Idealize.SL.Sem

theorem shli_23 (b : BitVec 32) : IntOp.shli .vector b 23#32 = b <<< (23 : ℕ) := rfl

/-! ## Blocks side by side, and one below the other -/

section

variable {α : Type}

/-- Blocks side by side, read in block `k`. -/
theorem cat_cols {R m W : ℕ} (xs : List ((s : Shape) × (s.Idx → α))) (h : Shape.Concatenates (xs.map (·.1)) ⟨2, ![R, W]⟩ 1)
    (k : ℕ) (hk : k < xs.length) (x : (⟨2, ![R, m]⟩ : Shape).Idx → α) (hxk : xs[k] = ⟨⟨2, ![R, m]⟩, x⟩) (pre : ℕ)
    (hpre : (((xs.take k).map (·.1)).map fun s => if h : s.rank = 2 then s.size ((1 : Fin 2).cast h.symm) else 0).sum = pre)
    (r : Fin R) (l : Fin m) (j : Fin W) (hj : pre + l.val = j.val) :
    concatenate ⟨2, ![R, W]⟩ 1 xs h (ix2 r j) = x (ix2 r l) :=
  concatenate_apply_piece 1 xs h (ix2 r j) k hk _ x hxk rfl pre hpre (ix2 r l)
    (fun b hb => by
      match b with
      | ⟨0, _⟩ => rfl
      | ⟨1, _⟩ => exact absurd rfl hb)
    hj

/-- Blocks one below the other, read in block `k`. -/
theorem cat_rows {R m W : ℕ} (xs : List ((s : Shape) × (s.Idx → α))) (h : Shape.Concatenates (xs.map (·.1)) ⟨2, ![R, W]⟩ 0)
    (k : ℕ) (hk : k < xs.length) (x : (⟨2, ![m, W]⟩ : Shape).Idx → α) (hxk : xs[k] = ⟨⟨2, ![m, W]⟩, x⟩) (pre : ℕ)
    (hpre : (((xs.take k).map (·.1)).map fun s => if h : s.rank = 2 then s.size ((0 : Fin 2).cast h.symm) else 0).sum = pre)
    (r : Fin R) (l : Fin m) (j : Fin W) (hj : pre + l.val = r.val) :
    concatenate ⟨2, ![R, W]⟩ 0 xs h (ix2 r j) = x (ix2 l j) :=
  concatenate_apply_piece 0 xs h (ix2 r j) k hk _ x hxk rfl pre hpre (ix2 l j)
    (fun b hb => by
      match b with
      | ⟨0, _⟩ => exact absurd rfl hb
      | ⟨1, _⟩ => rfl)
    hj

/-- Four blocks of 128 columns side by side. -/
theorem cat4_at {R : ℕ} (d : Fin 4 → (⟨2, ![R, 128]⟩ : Shape).Idx → α)
    (h : Shape.Concatenates [(⟨2, ![R, 128]⟩ : Shape), ⟨2, ![R, 128]⟩, ⟨2, ![R, 128]⟩, ⟨2, ![R, 128]⟩] ⟨2, ![R, 512]⟩ 1)
    (r : Fin R) (g : Fin 4) (l : Fin 128) :
    concatenate ⟨2, ![R, 512]⟩ 1 [⟨⟨2, ![R, 128]⟩, d 0⟩, ⟨⟨2, ![R, 128]⟩, d 1⟩, ⟨⟨2, ![R, 128]⟩, d 2⟩, ⟨⟨2, ![R, 128]⟩, d 3⟩] h
      (ix2 r ⟨128 * g.val + l.val, by omega⟩) = d g (ix2 r l) := by
  match g with
  | 0 => exact cat_cols [⟨_, d 0⟩, ⟨_, d 1⟩, ⟨_, d 2⟩, ⟨_, d 3⟩] h 0 (by simp) (d 0) rfl 0 rfl r l _ rfl
  | 1 => exact cat_cols [⟨_, d 0⟩, ⟨_, d 1⟩, ⟨_, d 2⟩, ⟨_, d 3⟩] h 1 (by simp) (d 1) rfl 128 rfl r l _ rfl
  | 2 => exact cat_cols [⟨_, d 0⟩, ⟨_, d 1⟩, ⟨_, d 2⟩, ⟨_, d 3⟩] h 2 (by simp) (d 2) rfl 256 rfl r l _ rfl
  | 3 => exact cat_cols [⟨_, d 0⟩, ⟨_, d 1⟩, ⟨_, d 2⟩, ⟨_, d 3⟩] h 3 (by simp) (d 3) rfl 384 rfl r l _ rfl

end

/-! ## The search -/

theorem fieldStep_at (y : FVec Ideal S256x1 .f32) (d n : ℕ) (s : IVec S256x1 32) (r : Fin 256) (hs : s (ix2 r 0) = BitVec.ofNat 32 n) :
    fieldStep y (BitVec.ofNat 32 d) s (ix2 r 0) = BitVec.ofNat 32 (keep (y (ix2 r 0)) d n) := by
  have e : IntOp.addi (s (ix2 r 0)) (BitVec.ofNat 32 d) = BitVec.ofNat 32 (n + d) := by
    rw [hs]; exact (BitVec.ofNat_add n d).symm
  pointwise [fieldStep]
  rw [e, shli_23, hs]
  unfold keep pow
  simp only [← not_lt, ite_not]
  split_ifs <;> rfl

theorem field_at (y : FVec Ideal S256x1 .f32) (r : Fin 256) : field y (ix2 r 0) = BitVec.ofNat 32 (found (y (ix2 r 0))) :=
  fieldStep_at y 1 _ _ r (fieldStep_at y 2 _ _ r (fieldStep_at y 4 _ _ r (fieldStep_at y 8 _ _ r (fieldStep_at y 16 _ _ r
    (fieldStep_at y 32 _ _ r (fieldStep_at y 64 _ _ r (fieldStep_at y 128 0 _ r rfl)))))))

theorem up_word : ∀ n : Fin 256,
    IntOp.addi (Scalar.select (IntOp.cmpi .eq (BitVec.ofNat 32 n.val) 0#32) (0#32) (IntOp.subi (BitVec.ofNat 32 n.val) 126#32)) 127#32
      = BitVec.ofNat 32 (if n.val = 0 then 127 else n.val + 1) := by decide +kernel

theorem down_word : ∀ n : Fin 254,
    IntOp.subi 127#32 (Scalar.select (IntOp.cmpi .eq (BitVec.ofNat 32 n.val) 0#32) (0#32) (IntOp.subi (BitVec.ofNat 32 n.val) 126#32))
      = BitVec.ofNat 32 (if n.val = 0 then 127 else 253 - n.val) := by decide +kernel

theorem scaleUp_at (y : FVec Ideal S256x1 .f32) (r : Fin 256) (h : Fine (y (ix2 r 0))) : scaleUp y (ix2 r 0) = up (y (ix2 r 0)) := by
  have hle := found_le _ h.2
  rw [up_eq _ h]
  pointwise [scaleUp, Hand.expo]
  rw [field_at, up_word ⟨found (y (ix2 r 0)), by omega⟩, shli_23]
  rfl

theorem scaleDown_at (y : FVec Ideal S256x1 .f32) (r : Fin 256) (h : Fine (y (ix2 r 0))) :
    scaleDown y (ix2 r 0) = down (y (ix2 r 0)) := by
  have hle := found_le _ h.2
  rw [down_eq _ h]
  pointwise [scaleDown, Hand.expo]
  rw [field_at, down_word ⟨found (y (ix2 r 0)), by omega⟩, shli_23]
  rfl

/-! ## The group -/

/-- Row `r` of group `g`. -/
def tgrp (x : Vec Ideal S256x512 .bf16) (r : Fin 256) (g : Fin 4) : Fin 128 → EReal := fun l => x (ix2 r ⟨128 * g.val + l.val, by omega⟩)

theorem grp_at (x : Vec Ideal S256x512 .bf16) (g : Fin 4) (r : Fin 256) (l : Fin 128) : Hand.grp x g (ix2 r l) = tgrp x r g l := by
  pointwise [Hand.grp, tgrp]

theorem largest_at (z : FVec Ideal S256x128 .f32) (r : Fin 256) :
    shapeCast S256x1 (multiReduction .maximumf [1] S256 (absf z) 0xFF800000#32 reduces_S256x128_S256 (.inl rfl) rfl)
      shapeCasts_S256_S256x1 (ix2 r 0) = top fun l => z (ix2 r l) := by
  pointwise
  rfl

theorem mulf_broadcast_at (a : FVec Ideal S256x1 .f32) (c : EReal) (j : S256x1.Idx) :
    mulf a (broadcast S256x1 (c : Ideal .f32)) j = a j * c := rfl

theorem amax_at (x : Vec Ideal S256x512 .bf16) (g : Fin 4) (r : Fin 256) : amax x g (ix2 r 0) = ratio (tgrp x r g) := by
  refine (mulf_broadcast_at _ _ _).trans ?_
  rw [largest_at]
  exact congrArg ratio (funext fun l => grp_at x g r l)

theorem quant_of (a : FVec Ideal S256x128 .f32) (d : FVec Ideal S256x1 .f32) (r : Fin 256) (l : Fin 128) :
    truncf .fp8e4m3 (minimumf (broadcast S256x128 (Scalar.ofBits .f32 0x43E00000#32))
      (maximumf (broadcast S256x128 (Scalar.ofBits .f32 0xC3E00000#32)) (mulf a (broadcastTo S256x128 d broadcasts_S256x1_S256x128))))
      bitsLt_fp8e4m3_f32 (ix2 r l) = code (d (ix2 r 0)) (a (ix2 r l)) := by
  pointwise
  rfl

/-- The codes of a group. -/
theorem quant_at (x : Vec Ideal S256x512 .bf16) (g : Fin 4) (r : Fin 256) (l : Fin 128) (h : Fine (ratio (tgrp x r g))) :
    quant x g (ix2 r l) = code (down (ratio (tgrp x r g))) (tgrp x r g l) := by
  refine (quant_of (Hand.grp x g) (scaleDown (amax x g)) r l).trans ?_
  rw [grp_at, scaleDown_at _ _ (by rw [amax_at]; exact h), amax_at]

theorem scale_at (x : Vec Ideal S256x512 .bf16) (g : Fin 4) (r : Fin 256) (h : Fine (ratio (tgrp x r g))) :
    scaleUp (amax x g) (ix2 r 0) = up (ratio (tgrp x r g)) := by
  rw [scaleUp_at _ _ (by rw [amax_at]; exact h), amax_at]

theorem deq_of (q : FVec Ideal S256x128 .fp8e4m3) (s : FVec Ideal S256x1 .f32) (r : Fin 256) (l : Fin 128) :
    mulf (extf .bf16 q bitsLt_fp8e4m3_bf16) (broadcastTo S256x128 (truncf .bf16 s bitsLt_bf16_f32) broadcasts_S256x1_S256x128) (ix2 r l)
      = q (ix2 r l) * s (ix2 r 0) := by
  pointwise

/-- The group scaled back. -/
theorem deq_at (x : Vec Ideal S256x512 .bf16) (g : Fin 4) (r : Fin 256) (l : Fin 128) (h : Fine (ratio (tgrp x r g))) :
    deq x g (ix2 r l) = code (down (ratio (tgrp x r g))) (tgrp x r g l) * up (ratio (tgrp x r g)) := by
  refine (deq_of (quant x g) (scaleUp (amax x g)) r l).trans ?_
  rw [quant_at x g r l h, scale_at x g r h]

/-- The four groups side by side. -/
theorem xDeq_at (x : Vec Ideal S256x512 .bf16) (g : Fin 4) (r : Fin 256) (l : Fin 128) :
    xDeq x (ix2 r ⟨128 * g.val + l.val, by omega⟩) = deq x g (ix2 r l) :=
  cat4_at (deq x) _ r g l

end Cert.KernelIdeal.Hand

end
-- ==== Proof.KernelIdealWeight.lean ====
module

public import proofs.«01_k».proof.Proof.KernelIdealGroup
public import Idealize.ShloMosaic.Lib.Pipeline.ValueKit

@[expose] public section

/-!
# The weight tile, element by element

The tile of a trip holds, at row `n` and column `j`, the weight at row `n` and column `512 * k + j` times the scale of
its block of 128 rows and 128 columns.
-/

set_option maxRecDepth 16384

noncomputable section

namespace Cert.KernelIdeal.Hand

open Cert.KernelIdeal Cert.KernelIdeal.Gen
open Idealize.ShloMosaic Idealize.ShloMosaic.TcCoe Idealize.SL.Sem

theorem wBlk_at (w : Vec Ideal S128x512 .fp8e4m3) (s : Elt Ideal .f32) (g : Fin 4) (n l : Fin 128) :
    wBlk w s g (ix2 n l) = w (ix2 n ⟨128 * g.val + l.val, by omega⟩) * s := by
  pointwise [wBlk]

theorem wBlk'_at (w : Vec Ideal S64x512 .fp8e4m3) (s : Elt Ideal .f32) (g : Fin 4) (n : Fin 64) (l : Fin 128) :
    wBlk' w s g (ix2 n l) = w (ix2 n ⟨128 * g.val + l.val, by omega⟩) * s := by
  pointwise [wBlk']

theorem wScale_at (x3 : Vec Ideal S17x64 .f32) (q : Fin 2 → ℕ) (hq : ∀ a, q a + S1x1.size a ≤ S17x64.size a) (b : Fin 17) (i : Fin 64)
    (h : q = ![b.val, i.val]) : wScale x3 q hq = x3 (ix2 b i) := by
  refine View.ld_unit_apply_of _ _ _ _ _ _ fun a => ?_
  subst h
  match a with
  | ⟨0, _⟩ => rfl
  | ⟨1, _⟩ => rfl

/-- A block of 128 rows: row `n` of block `b` is row `N` of the weights. -/
theorem wRow_at (x2 : Vec Ideal S2112x8192 .fp8e4m3) (x3 : Vec Ideal S17x64 .f32) (k : Fin k0_t1_loop.trips) (b : Fin 17)
    (o : Fin 2 → ℕ) (h : ∀ a, o a + S128x512.size a ≤ S2112x8192.size a) (ho : o = ![128 * b.val, 512 * k.val])
    (q : Fin 4 → Fin 2 → ℕ) (hq : ∀ g a, q g a + S1x1.size a ≤ S17x64.size a) (hq' : ∀ g : Fin 4, q g = ![b.val, 4 * k.val + g.val])
    (n : Fin 128) (g : Fin 4) (l : Fin 128) (N : Fin 2112) (hN : N.val = 128 * b.val + n.val) (c : Fin 8192)
    (hc : c.val = 512 * k.val + (128 * g.val + l.val)) (i : Fin 64) (hi : i.val = 4 * k.val + g.val) :
    wRow x2 x3 o h q hq (ix2 n ⟨128 * g.val + l.val, by omega⟩) = x2 (ix2 N c) * x3 (ix2 b i) := by
  refine (cat4_at (fun g => wBlk (View.ld (Val := Elt Ideal) (e' := .fp8e4m3) x2 (Rect.unit (s := S2112x8192) o S128x512.size h))
    (wScale x3 (q g) (hq g)) g) _ n g l).trans ?_
  rw [wBlk_at, wScale_at x3 (q g) (hq g) b i (by rw [hq', hi])]
  refine congrArg (· * x3 (ix2 b i)) (View.ld_unit_apply_of _ _ _ _ _ _ fun a => ?_)
  subst ho
  match a with
  | ⟨0, _⟩ => exact hN
  | ⟨1, _⟩ => exact hc

/-- The last block, of 64 rows. -/
theorem wRow'_at (x2 : Vec Ideal S2112x8192 .fp8e4m3) (x3 : Vec Ideal S17x64 .f32) (k : Fin k0_t1_loop.trips) (b : Fin 17)
    (o : Fin 2 → ℕ) (h : ∀ a, o a + S64x512.size a ≤ S2112x8192.size a) (ho : o = ![128 * b.val, 512 * k.val])
    (q : Fin 4 → Fin 2 → ℕ) (hq : ∀ g a, q g a + S1x1.size a ≤ S17x64.size a) (hq' : ∀ g : Fin 4, q g = ![b.val, 4 * k.val + g.val])
    (n : Fin 64) (g : Fin 4) (l : Fin 128) (N : Fin 2112) (hN : N.val = 128 * b.val + n.val) (c : Fin 8192)
    (hc : c.val = 512 * k.val + (128 * g.val + l.val)) (i : Fin 64) (hi : i.val = 4 * k.val + g.val) :
    wRow' x2 x3 o h q hq (ix2 n ⟨128 * g.val + l.val, by omega⟩) = x2 (ix2 N c) * x3 (ix2 b i) := by
  refine (cat4_at (fun g => wBlk' (View.ld (Val := Elt Ideal) (e' := .fp8e4m3) x2 (Rect.unit (s := S2112x8192) o S64x512.size h))
    (wScale x3 (q g) (hq g)) g) _ n g l).trans ?_
  rw [wBlk'_at, wScale_at x3 (q g) (hq g) b i (by rw [hq', hi])]
  refine congrArg (· * x3 (ix2 b i)) (View.ld_unit_apply_of _ _ _ _ _ _ fun a => ?_)
  subst ho
  match a with
  | ⟨0, _⟩ => exact hN
  | ⟨1, _⟩ => exact hc

/-- Blocks of 128 rows, and a last one of 64. -/
def pieces {α : Type} (L : List (S128x512.Idx → α)) (e : S64x512.Idx → α) : List ((s : Shape) × (s.Idx → α)) :=
  L.map (fun x => ⟨S128x512, x⟩) ++ [⟨S64x512, e⟩]

theorem rows_sum {α : Type} (L : List (S128x512.Idx → α)) (e : S64x512.Idx → α) (k : ℕ) (hk : k ≤ L.length) :
    ((((pieces L e).take k).map (·.1)).map fun s => if h : s.rank = 2 then s.size ((0 : Fin 2).cast h.symm) else 0).sum = 128 * k := by
  have e : (((pieces L e).take k).map (·.1)).map (fun s => if h : s.rank = 2 then s.size ((0 : Fin 2).cast h.symm) else 0)
      = (L.take k).map fun _ => 128 := by
    unfold pieces
    rw [List.take_append_of_le_length (by simpa using hk), ← List.map_take, List.map_map, List.map_map]
    rfl
  rw [e]
  simp [List.map_const', Nat.min_eq_left hk, Nat.mul_comm]

/-- The blocks one below the other, read in block `k`. -/
theorem pieces_at {α : Type} {R : ℕ} (L : List (S128x512.Idx → α)) (e : S64x512.Idx → α)
    (h : Shape.Concatenates ((pieces L e).map (·.1)) ⟨2, ![R, 512]⟩ 0)
    (n : Fin R) (j : Fin 512) (k : ℕ) (hk : k < L.length) (m : Fin 128) (hm : n.val = 128 * k + m.val) :
    concatenate ⟨2, ![R, 512]⟩ 0 (pieces L e) h (ix2 n j) = L[k] (ix2 m j) := by
  refine cat_rows _ h k (by simp [pieces]; omega) L[k] ?_ (128 * k) (rows_sum L e k hk.le) n m j hm.symm
  unfold pieces
  rw [List.getElem_append_left (by simpa using hk), List.getElem_map]

/-- And in the last block. -/
theorem pieces_last {α : Type} {R : ℕ} (L : List (S128x512.Idx → α)) (e : S64x512.Idx → α)
    (h : Shape.Concatenates ((pieces L e).map (·.1)) ⟨2, ![R, 512]⟩ 0)
    (n : Fin R) (j : Fin 512) (m : Fin 64) (hm : n.val = 128 * L.length + m.val) :
    concatenate ⟨2, ![R, 512]⟩ 0 (pieces L e) h (ix2 n j) = e (ix2 m j) := by
  refine cat_rows _ h L.length (by simp [pieces]) e ?_ (128 * L.length) (rows_sum L e _ le_rfl) n m j hm.symm
  simp [pieces]

/-- The blocks of 128 rows of a trip's tile. -/
def wRows (k : Fin k0_t1_loop.trips) (x2 : Vec Ideal S2112x8192 .fp8e4m3) (x3 : Vec Ideal S17x64 .f32) : List (S128x512.Idx → EReal) :=
  [wRow x2 x3 (k0_off3 k) (k0_off3_inb k) (fun g => k0_off4 k (BitVec.ofNat 32 g.val)) (k0_off4_inb k),
   wRow x2 x3 (k0_off5 k) (k0_off5_inb k) (fun g => k0_off6 k (BitVec.ofNat 32 g.val)) (k0_off6_inb k),
   wRow x2 x3 (k0_off7 k) (k0_off7_inb k) (fun g => k0_off8 k (BitVec.ofNat 32 g.val)) (k0_off8_inb k),
   wRow x2 x3 (k0_off9 k) (k0_off9_inb k) (fun g => k0_off10 k (BitVec.ofNat 32 g.val)) (k0_off10_inb k),
   wRow x2 x3 (k0_off11 k) (k0_off11_inb k) (fun g => k0_off12 k (BitVec.ofNat 32 g.val)) (k0_off12_inb k),
   wRow x2 x3 (k0_off13 k) (k0_off13_inb k) (fun g => k0_off14 k (BitVec.ofNat 32 g.val)) (k0_off14_inb k),
   wRow x2 x3 (k0_off15 k) (k0_off15_inb k) (fun g => k0_off16 k (BitVec.ofNat 32 g.val)) (k0_off16_inb k),
   wRow x2 x3 (k0_off17 k) (k0_off17_inb k) (fun g => k0_off18 k (BitVec.ofNat 32 g.val)) (k0_off18_inb k),
   wRow x2 x3 (k0_off19 k) (k0_off19_inb k) (fun g => k0_off20 k (BitVec.ofNat 32 g.val)) (k0_off20_inb k),
   wRow x2 x3 (k0_off21 k) (k0_off21_inb k) (fun g => k0_off22 k (BitVec.ofNat 32 g.val)) (k0_off22_inb k),
   wRow x2 x3 (k0_off23 k) (k0_off23_inb k) (fun g => k0_off24 k (BitVec.ofNat 32 g.val)) (k0_off24_inb k),
   wRow x2 x3 (k0_off25 k) (k0_off25_inb k) (fun g => k0_off26 k (BitVec.ofNat 32 g.val)) (k0_off26_inb k),
   wRow x2 x3 (k0_off27 k) (k0_off27_inb k) (fun g => k0_off28 k (BitVec.ofNat 32 g.val)) (k0_off28_inb k),
   wRow x2 x3 (k0_off29 k) (k0_off29_inb k) (fun g => k0_off30 k (BitVec.ofNat 32 g.val)) (k0_off30_inb k),
   wRow x2 x3 (k0_off31 k) (k0_off31_inb k) (fun g => k0_off32 k (BitVec.ofNat 32 g.val)) (k0_off32_inb k),
   wRow x2 x3 (k0_off33 k) (k0_off33_inb k) (fun g => k0_off34 k (BitVec.ofNat 32 g.val)) (k0_off34_inb k)]

/-- Block `b` of rows of a trip's tile, at its row `m`. -/
theorem wRows_at (k : Fin k0_t1_loop.trips) (x2 : Vec Ideal S2112x8192 .fp8e4m3) (x3 : Vec Ideal S17x64 .f32) (g : Fin 4) (l : Fin 128)
    (c : Fin 8192) (hc : c.val = 512 * k.val + (128 * g.val + l.val)) (i : Fin 64) (hi : i.val = 4 * k.val + g.val)
    (b : Fin 16) (hb : b.val < (wRows k x2 x3).length) (m : Fin 128) (n : Fin 2112) (hm : n.val = 128 * b.val + m.val) :
    (wRows k x2 x3)[b.val] (ix2 m ⟨128 * g.val + l.val, by omega⟩)
      = x2 (ix2 n c) * x3 (ix2 (⟨b.val, by omega⟩ : Fin 17) i) := by
  have row := fun b o h ho q hq hq' m hm => wRow_at x2 x3 k b o h ho q hq hq' m g l n hm c hc i hi
  fin_cases b
  · exact row 0 _ _ (k0_off3_eq k) _ (k0_off4_inb k) (k0_off4_eq k) m hm
  · exact row 1 _ _ (k0_off5_eq k) _ (k0_off6_inb k) (k0_off6_eq k) m hm
  · exact row 2 _ _ (k0_off7_eq k) _ (k0_off8_inb k) (k0_off8_eq k) m hm
  · exact row 3 _ _ (k0_off9_eq k) _ (k0_off10_inb k) (k0_off10_eq k) m hm
  · exact row 4 _ _ (k0_off11_eq k) _ (k0_off12_inb k) (k0_off12_eq k) m hm
  · exact row 5 _ _ (k0_off13_eq k) _ (k0_off14_inb k) (k0_off14_eq k) m hm
  · exact row 6 _ _ (k0_off15_eq k) _ (k0_off16_inb k) (k0_off16_eq k) m hm
  · exact row 7 _ _ (k0_off17_eq k) _ (k0_off18_inb k) (k0_off18_eq k) m hm
  · exact row 8 _ _ (k0_off19_eq k) _ (k0_off20_inb k) (k0_off20_eq k) m hm
  · exact row 9 _ _ (k0_off21_eq k) _ (k0_off22_inb k) (k0_off22_eq k) m hm
  · exact row 10 _ _ (k0_off23_eq k) _ (k0_off24_inb k) (k0_off24_eq k) m hm
  · exact row 11 _ _ (k0_off25_eq k) _ (k0_off26_inb k) (k0_off26_eq k) m hm
  · exact row 12 _ _ (k0_off27_eq k) _ (k0_off28_inb k) (k0_off28_eq k) m hm
  · exact row 13 _ _ (k0_off29_eq k) _ (k0_off30_inb k) (k0_off30_eq k) m hm
  · exact row 14 _ _ (k0_off31_eq k) _ (k0_off32_inb k) (k0_off32_eq k) m hm
  · exact row 15 _ _ (k0_off33_eq k) _ (k0_off34_inb k) (k0_off34_eq k) m hm

theorem wTile_eq (k : Fin k0_t1_loop.trips) (x2 : Vec Ideal S2112x8192 .fp8e4m3) (x3 : Vec Ideal S17x64 .f32) :
    wTile k x2 x3 = concatenate S2112x512 0 (pieces (wRows k x2 x3)
      (wRow' x2 x3 (k0_off35 k) (k0_off35_inb k) (fun g => k0_off36 k (BitVec.ofNat 32 g.val)) (k0_off36_inb k)))
      concatenates_S128x512_S128x512_S128x512_S128x512_S128x512_S128x512_S128x512_S128x512_S128x512_S128x512_S128x512_S128x512_S128x512_S128x512_S128x512_S128x512_S64x512_S2112x512_d0 := rfl

/-- The weight tile. -/
theorem wTile_at (k : Fin k0_t1_loop.trips) (x2 : Vec Ideal S2112x8192 .fp8e4m3) (x3 : Vec Ideal S17x64 .f32) (n : Fin 2112)
    (g : Fin 4) (l : Fin 128) (c : Fin 8192) (hc : c.val = 512 * k.val + (128 * g.val + l.val)) (i : Fin 64) (hi : i.val = 4 * k.val + g.val) :
    wTile k x2 x3 (ix2 n ⟨128 * g.val + l.val, by omega⟩) = x2 (ix2 n c) * x3 (ix2 (⟨n.val / 128, by omega⟩ : Fin 17) i) := by
  have hn := n.isLt
  rw [wTile_eq]
  by_cases hb : n.val / 128 < 16
  · exact (pieces_at (wRows k x2 x3) _ _ n _ (n.val / 128) hb ⟨n.val % 128, by omega⟩ (by show n.val = 128 * (n.val / 128) + n.val % 128; omega)).trans
      (wRows_at k x2 x3 g l c hc i hi ⟨n.val / 128, hb⟩ hb ⟨n.val % 128, by omega⟩ n (by show n.val = 128 * (n.val / 128) + n.val % 128; omega))
  · have e : (⟨n.val / 128, by omega⟩ : Fin 17) = 16 := Fin.ext (by show n.val / 128 = 16; omega)
    rw [e]
    have hm : n.val = 128 * 16 + (⟨n.val - 2048, by omega⟩ : Fin 64).val := by show n.val = 2048 + (n.val - 2048); omega
    exact (pieces_last (wRows k x2 x3) _ _ n _ ⟨n.val - 2048, by omega⟩ hm).trans
      (wRow'_at x2 x3 k 16 _ _ (k0_off35_eq k) _ _ (k0_off36_eq k) _ g l n hm c hc i hi)

end Cert.KernelIdeal.Hand

end
-- ==== Proof.KernelIdealAt.lean ====
module

public import proofs.«01_k».proof.Proof.KernelIdealWeight

@[expose] public section

/-!
# The kernel's results, element by element

A block of 256 rows of each result is read down to the functions of a row of `Cert.Spec`: the codes and the scales from
the trip that writes them, the projection as the sum over the sixteen trips.
-/

set_option maxRecDepth 16384

noncomputable section

namespace Cert.KernelIdeal.Hand

open Cert.KernelIdeal Cert.KernelIdeal.Gen Cert.Spec
open Idealize.ShloMosaic Idealize.ShloMosaic.TcCoe Idealize.SL.Sem

/-- A row of a block of the activations. -/
def brow (x1 : Vec Ideal S256x8192 .bf16) (r : Fin 256) : Fin 8192 → EReal := fun c => x1 (ix2 r c)

/-- Every group of the row is one whose exponent the search finds. -/
def Small (x : Fin 8192 → EReal) : Prop := ∀ g, Fine (ratio (Spec.grp x g))

theorem xTile_at (k : Fin k0_t1_loop.trips) (x1 : Vec Ideal S256x8192 .bf16) (r : Fin 256) (j : Fin 512) (c : Fin 8192)
    (hc : c.val = 512 * k.val + j.val) : xTile k x1 (ix2 r j) = x1 (ix2 r c) := by
  refine View.ld_unit_apply_of _ _ _ _ _ _ fun a => ?_
  have e := congrFun (k0_off1_eq k) a
  match a with
  | ⟨0, _⟩ => exact (Nat.zero_add _).symm.trans (congrArg (· + r.val) e.symm)
  | ⟨1, _⟩ => exact hc.trans (congrArg (· + j.val) e.symm)

theorem tgrp_xTile (k : Fin k0_t1_loop.trips) (x1 : Vec Ideal S256x8192 .bf16) (r : Fin 256) (g : Fin 4) (i : Fin 64)
    (hi : i.val = 4 * k.val + g.val) : tgrp (xTile k x1) r g = Spec.grp (brow x1 r) i :=
  funext fun l => xTile_at k x1 r _ _ (by show i.val * 128 + l.val = 512 * k.val + (128 * g.val + l.val); omega)

/-! ## The codes -/

theorem outC_at (x1 : Vec Ideal S256x8192 .bf16) (r : Fin 256) (c : Fin 8192) (h : Small (brow x1 r)) :
    outC x1 (ix2 r c) = codes (brow x1 r) c := by
  have hc := c.isLt
  have e : inGroup (ix2 r c) = ix2 r (⟨c.val % 128, Nat.mod_lt _ (by decide)⟩ : Fin 128) := by
    funext a
    match a with
    | ⟨0, _⟩ => rfl
    | ⟨1, _⟩ => rfl
  have hg : (gOf c).val = 4 * (colTrip c).val + (colGroup c).val := by
    show c.val / 128 = 4 * (c.val / 512) + c.val % 512 / 128; omega
  have ht := tgrp_xTile (colTrip c) x1 r (colGroup c) (gOf c) hg
  show quant (xTile (colTrip c) x1) (colGroup c) (inGroup (ix2 r c)) = _
  rw [e, quant_at _ _ _ _ (by rw [ht]; exact h _), ht]
  have ec : (⟨(gOf c).val * 128 + c.val % 128, by have := (gOf c).isLt; omega⟩ : Fin 8192) = c := by
    apply Fin.ext; show c.val / 128 * 128 + c.val % 128 = c.val; omega
  exact congrArg (fun i => code (down (ratio (Spec.grp (brow x1 r) (gOf c)))) (x1 (ix2 r i))) ec

/-! ## The scales -/

theorem put_word : ∀ (k : Fin k0_t1_loop.trips) (g : Fin 4) (j : Fin 64),
    IntOp.cmpi .eq (BitVec.ofNat 32 j.val) (Scalar.addi (Scalar.muli (Scf.iv 0#32 1#32 k) 4#32) (BitVec.ofNat 32 g.val))
      = BitVec.ofBool (decide (j.val = 4 * k.val + g.val)) := by decide +kernel

theorem put_at (k : Fin k0_t1_loop.trips) (x : Vec Ideal S256x512 .bf16) (g : Fin 4) (s : FVec Ideal S256x64 .f32) (r : Fin 256) (j : Fin 64) :
    put k x g s (ix2 r j) = if j.val = 4 * k.val + g.val then scaleUp (amax x g) (ix2 r 0) else s (ix2 r j) := by
  pointwise [put]
  rw [put_word]
  by_cases h : j.val = 4 * k.val + g.val
  · rw [if_pos h, decide_eq_true h]; rfl
  · rw [if_neg h, decide_eq_false h]; rfl

theorem cast_self (s : Vec Ideal S256x64 .f32) (r : Fin 256) (j : Fin 64) :
    shapeCast S256x64 s shapeCasts_S256x64_S256x64 (ix2 r j) = s (ix2 r j) := by
  pointwise

theorem put_scale (k : Fin k0_t1_loop.trips) (x1 : Vec Ideal S256x8192 .bf16) (g : Fin 4) (s : FVec Ideal S256x64 .f32) (r : Fin 256)
    (j : Fin 64) (h : Small (brow x1 r)) :
    put k (xTile k x1) g s (ix2 r j) = if j.val = 4 * k.val + g.val then scales (brow x1 r) j else s (ix2 r j) := by
  rw [put_at]
  by_cases hj : j.val = 4 * k.val + g.val
  · have ht := tgrp_xTile k x1 r g j hj
    rw [if_pos hj, if_pos hj, scale_at _ _ _ (by rw [ht]; exact h _), ht]
    rfl
  · rw [if_neg hj, if_neg hj]

theorem stS_at (x1 : Vec Ideal S256x8192 .bf16) (r : Fin 256) (h : Small (brow x1 r)) (n : ℕ) (hn : n ≤ 16) (j : Fin 64)
    (hj : j.val < 4 * n) : stS x1 n (ix2 r j) = scales (brow x1 r) j := by
  induction n with
  | zero => exact absurd hj (by omega)
  | succ n ih =>
    have hk : n < k0_t1_loop.trips := by rw [trips_eq]; omega
    have e : stS x1 (n + 1) = sNew ⟨n, hk⟩ (xTile ⟨n, hk⟩ x1) (stS x1 n) := dif_pos hk
    rw [e]
    unfold sNew
    rw [put_scale _ _ _ _ _ _ h, put_scale _ _ _ _ _ _ h, put_scale _ _ _ _ _ _ h, put_scale _ _ _ _ _ _ h, cast_self]
    split_ifs with h3 h2 h1 h0
    · rfl
    · rfl
    · rfl
    · rfl
    · refine ih (by omega) ?_
      simp only [show ((3 : Fin 4) : ℕ) = 3 from rfl, show ((2 : Fin 4) : ℕ) = 2 from rfl, show ((1 : Fin 4) : ℕ) = 1 from rfl,
        show ((0 : Fin 4) : ℕ) = 0 from rfl] at h0 h1 h2 h3
      omega

theorem outS_at (x1 : Vec Ideal S256x8192 .bf16) (r : Fin 256) (h : Small (brow x1 r)) (j : Fin 64) :
    outS x1 (ix2 r j) = scales (brow x1 r) j :=
  stS_at x1 r h 16 le_rfl j (by omega)

/-! ## The projection -/

/-- One term of the projection. -/
def term (x : Fin 8192 → EReal) (w : Fin 2112 → Fin 8192 → EReal) (s : Fin 17 → Fin 64 → EReal) (n : Fin 2112) (c : Fin 8192) : EReal :=
  codes x c * scales x (gOf c) * (w n c * s ⟨n.val / 128, by omega⟩ (gOf c))

theorem product_at (a : FVec Ideal S256x512 .bf16) (w : FVec Ideal S2112x512 .bf16) (acc : Vec Ideal S256x2112 .f32) (r : Fin 256)
    (n : Fin 2112) : k0_pay116 a w acc (ix2 r n) = acc (ix2 r n) + ∑ t : Fin 512, a (ix2 r t) * w (ix2 n t) := by
  pointwise [k0_pay116]

theorem accNew_at (k : Fin k0_t1_loop.trips) (x1 : Vec Ideal S256x8192 .bf16) (x2 : Vec Ideal S2112x8192 .fp8e4m3)
    (x3 : Vec Ideal S17x64 .f32) (a : Vec Ideal S256x2112 .f32) (r : Fin 256) (n : Fin 2112) (h : Small (brow x1 r)) :
    accNew k x1 x2 x3 a (ix2 r n) = a (ix2 r n) + ∑ t : Fin 512,
      term (brow x1 r) (fun n c => x2 (ix2 n c)) (fun b i => x3 (ix2 b i)) n
        ⟨k.val * 512 + t.val, by have := Nat.lt_of_lt_of_eq k.isLt trips_eq; omega⟩ := by
  have hk : k.val < 16 := Nat.lt_of_lt_of_eq k.isLt trips_eq
  refine (product_at _ _ _ _ _).trans (congrArg (a (ix2 r n) + ·) (Finset.sum_congr rfl fun t _ => ?_))
  obtain ⟨g, l, rfl⟩ : ∃ (g : Fin 4) (l : Fin 128), t = ⟨128 * g.val + l.val, by omega⟩ :=
    ⟨⟨t.val / 128, by omega⟩, ⟨t.val % 128, by omega⟩, Fin.ext (by show t.val = 128 * (t.val / 128) + t.val % 128; omega)⟩
  have hg := g.isLt
  have hl := l.isLt
  have hi : (gOf ⟨k.val * 512 + (128 * g.val + l.val), by omega⟩).val = 4 * k.val + g.val := by
    show (k.val * 512 + (128 * g.val + l.val)) / 128 = _; omega
  have ht := tgrp_xTile k x1 r g _ hi
  rw [xDeq_at, deq_at _ _ _ _ (by rw [ht]; exact h _), ht,
    wTile_at k x2 x3 n g l ⟨k.val * 512 + (128 * g.val + l.val), by omega⟩ (by show k.val * 512 + _ = _; omega) _ hi]
  have ec : (⟨(gOf ⟨k.val * 512 + (128 * g.val + l.val), by omega⟩).val * 128 + l.val, by rw [hi]; omega⟩ : Fin 8192)
      = ⟨k.val * 512 + (128 * g.val + l.val), by omega⟩ := by apply Fin.ext; show _ * 128 + l.val = _; rw [hi]; show _ = k.val * 512 + _; omega
  exact congrArg (fun i => code (down (ratio (Spec.grp (brow x1 r) (gOf ⟨k.val * 512 + (128 * g.val + l.val), by omega⟩)))) (x1 (ix2 r i)) * _ * _) ec

theorem cleared_at (r : Fin 256) (n : Fin 2112) : (k0_pay115 : FVec Ideal S256x2112 .f32) (ix2 r n) = 0 := by
  pointwise [k0_pay115]

theorem stA_at (x1 : Vec Ideal S256x8192 .bf16) (x2 : Vec Ideal S2112x8192 .fp8e4m3) (x3 : Vec Ideal S17x64 .f32) (r : Fin 256)
    (n : Fin 2112) (h : Small (brow x1 r)) (m : ℕ) (hm : m ≤ 16) :
    stA x1 x2 x3 m (ix2 r n) = ∑ i : Fin m, ∑ t : Fin 512,
      term (brow x1 r) (fun n c => x2 (ix2 n c)) (fun b i => x3 (ix2 b i)) n ⟨i.val * 512 + t.val, by omega⟩ := by
  induction m with
  | zero => exact cleared_at r n
  | succ m ih =>
    have hk : m < k0_t1_loop.trips := by rw [trips_eq]; omega
    have e : stA x1 x2 x3 (m + 1) = accNew ⟨m, hk⟩ x1 x2 x3 (stA x1 x2 x3 m) := dif_pos hk
    rw [e, accNew_at _ _ _ _ _ _ _ h, ih (by omega)]
    rw [Fin.sum_univ_castSucc (n := m)]
    rfl

theorem acc_at (x1 : Vec Ideal S256x8192 .bf16) (x2 : Vec Ideal S2112x8192 .fp8e4m3) (x3 : Vec Ideal S17x64 .f32) (r : Fin 256)
    (n : Fin 2112) (h : Small (brow x1 r)) :
    stA x1 x2 x3 16 (ix2 r n) = proj (brow x1 r) (fun n c => x2 (ix2 n c)) (fun b i => x3 (ix2 b i)) n :=
  (stA_at x1 x2 x3 r n h 16 le_rfl).trans (Fin.sum_univ_tiles 16 512 rfl _).symm

/-! ## The three normalised parts -/

theorem accQ_at (x1 : Vec Ideal S256x8192 .bf16) (x2 : Vec Ideal S2112x8192 .fp8e4m3) (x3 : Vec Ideal S17x64 .f32) (r : Fin 256)
    (n : Fin 1536) (h : Small (brow x1 r)) :
    accQ x1 x2 x3 (ix2 r n) = proj (brow x1 r) (fun n c => x2 (ix2 n c)) (fun b i => x3 (ix2 b i)) ⟨n.val, by omega⟩ := by
  refine (View.ld_unit_apply_of _ _ _ _ _ (ix2 r ⟨n.val, by omega⟩) fun a => ?_).trans (acc_at x1 x2 x3 r _ h)
  match a with
  | ⟨0, _⟩ => exact (Nat.zero_add _).symm
  | ⟨1, _⟩ => exact (Nat.zero_add _).symm

theorem accKv_at (x1 : Vec Ideal S256x8192 .bf16) (x2 : Vec Ideal S2112x8192 .fp8e4m3) (x3 : Vec Ideal S17x64 .f32) (r : Fin 256)
    (n : Fin 512) (h : Small (brow x1 r)) :
    accKv x1 x2 x3 (ix2 r n) = proj (brow x1 r) (fun n c => x2 (ix2 n c)) (fun b i => x3 (ix2 b i)) ⟨1536 + n.val, by omega⟩ := by
  refine (View.ld_unit_apply_of _ _ _ _ _ (ix2 r ⟨1536 + n.val, by omega⟩) fun a => ?_).trans (acc_at x1 x2 x3 r _ h)
  match a with
  | ⟨0, _⟩ => exact (Nat.zero_add _).symm
  | ⟨1, _⟩ => rfl

theorem accPe_at (x1 : Vec Ideal S256x8192 .bf16) (x2 : Vec Ideal S2112x8192 .fp8e4m3) (x3 : Vec Ideal S17x64 .f32) (r : Fin 256)
    (n : Fin 64) (h : Small (brow x1 r)) :
    accPe x1 x2 x3 (ix2 r n) = proj (brow x1 r) (fun n c => x2 (ix2 n c)) (fun b i => x3 (ix2 b i)) ⟨2048 + n.val, by omega⟩ := by
  refine (View.ld_unit_apply_of _ _ _ _ _ (ix2 r ⟨2048 + n.val, by omega⟩) fun a => ?_).trans (acc_at x1 x2 x3 r _ h)
  match a with
  | ⟨0, _⟩ => exact (Nat.zero_add _).symm
  | ⟨1, _⟩ => rfl

theorem normQ_at (v : Vec Ideal S256x1536 .f32) (y : Vec Ideal S1x1536 .bf16) (r : Fin 256) (n : Fin 1536) :
    k0_pay118 v y (ix2 r n) = norm (Ideal.ofBits .f32 0x44C00000#32) (fun j : Fin 1536 => v (ix2 r j)) (fun j => y (ix2 0 j)) n := by
  pointwise [k0_pay118]
  rfl

theorem normKv_at (v : Vec Ideal S256x512 .f32) (y : Vec Ideal S1x512 .bf16) (r : Fin 256) (n : Fin 512) :
    k0_pay1 v (k0_pay119 y) (k0_pay120 v) (ix2 r n)
      = norm (Ideal.ofBits .f32 0x44000000#32) (fun j : Fin 512 => v (ix2 r j)) (fun j => y (ix2 0 j)) n := by
  pointwise [k0_pay1, k0_pay119, k0_pay120]
  rfl

theorem outQ_at (x1 : Vec Ideal S256x8192 .bf16) (x2 : Vec Ideal S2112x8192 .fp8e4m3) (x3 : Vec Ideal S17x64 .f32)
    (x4 : Vec Ideal S1x1536 .bf16) (r : Fin 256) (n : Fin 1536) (h : Small (brow x1 r)) :
    outQ x1 x2 x3 x4 (ix2 r n) = norm (Ideal.ofBits .f32 0x44C00000#32)
      (fun j : Fin 1536 => proj (brow x1 r) (fun n c => x2 (ix2 n c)) (fun b i => x3 (ix2 b i)) ⟨j.val, by omega⟩)
      (fun j => x4 (ix2 0 j)) n :=
  (normQ_at _ _ r n).trans (congrArg (fun v => norm _ v _ n) (funext fun j => accQ_at x1 x2 x3 r j h))

theorem outKv_at (x1 : Vec Ideal S256x8192 .bf16) (x2 : Vec Ideal S2112x8192 .fp8e4m3) (x3 : Vec Ideal S17x64 .f32)
    (x5 : Vec Ideal S1x512 .bf16) (r : Fin 256) (n : Fin 512) (h : Small (brow x1 r)) :
    outKv x1 x2 x3 x5 (ix2 r n) = norm (Ideal.ofBits .f32 0x44000000#32)
      (fun j : Fin 512 => proj (brow x1 r) (fun n c => x2 (ix2 n c)) (fun b i => x3 (ix2 b i)) ⟨1536 + j.val, by omega⟩)
      (fun j => x5 (ix2 0 j)) n :=
  (normKv_at _ _ r n).trans (congrArg (fun v => norm _ v _ n) (funext fun j => accKv_at x1 x2 x3 r j h))

theorem outPe_at (x1 : Vec Ideal S256x8192 .bf16) (x2 : Vec Ideal S2112x8192 .fp8e4m3) (x3 : Vec Ideal S17x64 .f32)
    (r : Fin 256) (n : Fin 64) (h : Small (brow x1 r)) :
    outPe x1 x2 x3 (ix2 r n) = proj (brow x1 r) (fun n c => x2 (ix2 n c)) (fun b i => x3 (ix2 b i)) ⟨2048 + n.val, by omega⟩ :=
  accPe_at x1 x2 x3 r n h

end Cert.KernelIdeal.Hand

end
-- ==== Proof.Results.lean ====
module

public import proofs.«01_k».proof.Proof.Spec
public import Idealize.ShloMosaic.Lib.Pointwise

@[expose] public section

/-!
# The five results, as functions of the arguments

Each result array, index by index, from the activations `x`, the weights `w`, their scales `s` and the two vectors the
normalised parts are multiplied by.
-/

noncomputable section

namespace Cert.Spec

open Idealize.ShloMosaic

/-- The activations, the weights, and the scales of the weights. -/
abbrev Acts : Type := ((⟨3, ![1, 3072, 8192]⟩ : Shape).Idx → EReal)
abbrev Weights : Type := ((⟨2, ![2112, 8192]⟩ : Shape).Idx → EReal)
abbrev WScales : Type := ((⟨2, ![17, 64]⟩ : Shape).Idx → EReal)

/-- A row of the activations. -/
def xrow (x : Acts) (r : Fin 3072) : Fin 8192 → EReal := fun c => x (ix3 0 r c)

/-- The projection of row `r`, at column `n`. -/
def prow (x : Acts) (w : Weights) (s : WScales) (r : Fin 3072) (n : Fin 2112) : EReal :=
  proj (xrow x r) (fun n c => w (ix2 n c)) (fun b i => s (ix2 b i)) n

/-- The normalised query columns. -/
def resQ (x : Acts) (w : Weights) (s : WScales) (a : (⟨1, ![1536]⟩ : Shape).Idx → EReal) (i : (⟨2, ![3072, 1536]⟩ : Shape).Idx) : EReal :=
  norm (Ideal.ofBits .f32 0x44C00000#32) (fun j : Fin 1536 => prow x w s (i 0) ⟨j.val, by omega⟩) (fun j => a (ix1 j)) (i 1)

/-- The normalised key and value columns. -/
def resKv (x : Acts) (w : Weights) (s : WScales) (a : (⟨1, ![512]⟩ : Shape).Idx → EReal) (i : (⟨2, ![3072, 512]⟩ : Shape).Idx) : EReal :=
  norm (Ideal.ofBits .f32 0x44000000#32) (fun j : Fin 512 => prow x w s (i 0) ⟨1536 + j.val, by omega⟩) (fun j => a (ix1 j)) (i 1)

/-- The last columns. -/
def resPe (x : Acts) (w : Weights) (s : WScales) (i : (⟨2, ![3072, 64]⟩ : Shape).Idx) : EReal :=
  prow x w s (i 0) ⟨2048 + (i 1).val, by have : (i 1).val < 64 := (i 1).isLt; omega⟩

/-- The codes. -/
def resC (x : Acts) (i : (⟨2, ![3072, 8192]⟩ : Shape).Idx) : EReal := codes (xrow x (i 0)) (i 1)

/-- The scales. -/
def resS (x : Acts) (i : (⟨2, ![3072, 64]⟩ : Shape).Idx) : EReal := scales (xrow x (i 0)) (i 1)

end Cert.Spec

end
-- ==== Proof.KernelIdealRun.lean ====
module

public import proofs.«01_k».proof.Proof.KernelIdealBody
public import proofs.«01_k».proof.Proof.KernelIdealAt
public import proofs.«01_k».proof.Proof.Results
public import Idealize.ShloMosaic.Lib.Claim
public import Idealize.ShloMosaic.Lib.Pipeline.ValueKit

@[expose] public section

/-!
# The kernel's result arrays

Each grid point reads 256 rows of the activations and the whole of every other operand, and writes its 256 rows of each
result.  So the arrays end as the functions of the arguments in `Cert.Spec`.
-/

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] := by decide +kernel

theorem points (t : Fin cfg0.N) : t.val < 12 := Nat.lt_of_lt_of_eq t.isLt (by decide +kernel)

/-- The row of the arrays that a point's row `r` is. -/
def grow (t : Fin cfg0.N) (r : Fin 256) : Fin 3072 := ⟨256 * t.val + r.val, by have := points t; omega⟩

theorem x_at (t : Fin cfg0.N) (r : Fin 256) (k : Fin 8192) :
    iblk m c 0 t (ix2 r k) = m ((c : Thread nD τ).loc main_arg0) (ix3 0 (grow t r) k) := by
  blk_ext! [iblk, V, idx t, grow]

theorem w_at (t : Fin cfg0.N) (n : Fin 2112) (k : Fin 8192) :
    iblk m c 1 t (ix2 n k) = m ((c : Thread nD τ).loc main_arg1) (ix2 n k) := by
  blk_ext! [iblk, V, idx t]

theorem s_at (t : Fin cfg0.N) (b : Fin 17) (i : Fin 64) :
    iblk m c 2 t (ix2 b i) = m ((c : Thread nD τ).loc main_arg2) (ix2 b i) := by
  blk_ext! [iblk, V, idx t]

theorem a_at (t : Fin cfg0.N) (j : Fin 1536) :
    iblk m c 3 t (ix2 0 j) = m ((c : Thread nD τ).loc main_arg3) (ix1 j) := by
  blk_ext! [iblk, V, idx t]

theorem b_at (t : Fin cfg0.N) (j : Fin 512) :
    iblk m c 4 t (ix2 0 j) = m ((c : Thread nD τ).loc main_arg4) (ix1 j) := by
  blk_ext! [iblk, V, idx t]

/-! ## The operands, row by row -/

theorem brow_eq (t : Fin cfg0.N) (r : Fin 256) : brow (iblk m c 0 t) r = xrow (m ((c : Thread nD τ).loc main_arg0)) (grow t r) :=
  funext fun k => x_at m c t r k

theorem prow_eq (t : Fin cfg0.N) (r : Fin 256) (n : Fin 2112) :
    proj (brow (iblk m c 0 t) r) (fun n k => iblk m c 1 t (ix2 n k)) (fun b i => iblk m c 2 t (ix2 b i)) n
      = prow (m ((c : Thread nD τ).loc main_arg0)) (m ((c : Thread nD τ).loc main_arg1)) (m ((c : Thread nD τ).loc main_arg2)) (grow t r) n := by
  have hw : (fun (n : Fin 2112) (k : Fin 8192) => iblk m c 1 t (ix2 n k)) = fun n k => m ((c : Thread nD τ).loc main_arg1) (ix2 n k) :=
    funext fun n => funext fun k => w_at m c t n k
  have hs : (fun (b : Fin 17) (i : Fin 64) => iblk m c 2 t (ix2 b i)) = fun b i => m ((c : Thread nD τ).loc main_arg2) (ix2 b i) :=
    funext fun b => funext fun i => s_at m c t b i
  rw [brow_eq, hw, hs]
  rfl

/-! ## The results -/

variable (hx : ∀ r, Small (xrow (m ((c : Thread nD τ).loc main_arg0)) r))

include hx

theorem small_at (t : Fin cfg0.N) (r : Fin 256) : Small (brow (iblk m c 0 t) r) := by
  rw [brow_eq]; exact hx _

theorem finalQ : (dats m 0 c).arrAt 5 cfg0.N = resQ (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, n, rfl⟩ : ∃ (r : Fin 256) (n : Fin 1536), y = ix2 r n := ⟨y 0, y 1, eq_ix2 y⟩
  have e : ((cfg0.win 5).blk t).view.emb (ix2 r n) = ix2 (grow t r) n := by blk_ext [idx t, grow]
  rw [e]
  blk_simp
  rw [after0_5]
  refine (outQ_at _ _ _ _ r n (small_at m c hx t r)).trans ?_
  simp only [prow_eq, a_at]
  rfl

theorem finalKv : (dats m 0 c).arrAt 6 cfg0.N = resKv (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  obtain ⟨r, n, rfl⟩ : ∃ (r : Fin 256) (n : Fin 512), y = ix2 r n := ⟨y 0, y 1, eq_ix2 y⟩
  have e : ((cfg0.win 6).blk t).view.emb (ix2 r n) = ix2 (grow t r) n := by blk_ext [idx t, grow]
  rw [e]
  blk_simp
  rw [after0_6]
  refine (outKv_at _ _ _ _ r n (small_at m c hx t r)).trans ?_
  simp only [prow_eq, b_at]
  rfl

theorem finalPe : (dats m 0 c).arrAt 7 cfg0.N = resPe (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨r, n, rfl⟩ : ∃ (r : Fin 256) (n : Fin 64), y = ix2 r n := ⟨y 0, y 1, eq_ix2 y⟩
  have e : ((cfg0.win 7).blk t).view.emb (ix2 r n) = ix2 (grow t r) n := by blk_ext [idx t, grow]
  rw [e]
  blk_simp
  rw [after0_7]
  exact (outPe_at _ _ _ r n (small_at m c hx t r)).trans (prow_eq m c t r _)

theorem finalC : (dats m 0 c).arrAt 8 cfg0.N = resC (m ((c : Thread nD τ).loc main_arg0)) := by
  refine (dats m 0 c).arrAt_eq_of_covers 8 _ (by decide +kernel) fun t hf y => ?_
  obtain ⟨r, n, rfl⟩ : ∃ (r : Fin 256) (n : Fin 8192), y = ix2 r n := ⟨y 0, y 1, eq_ix2 y⟩
  have e : ((cfg0.win 8).blk t).view.emb (ix2 r n) = ix2 (grow t r) n := by blk_ext [idx t, grow]
  rw [e]
  blk_simp
  rw [after0_8]
  exact (outC_at _ r n (small_at m c hx t r)).trans (congrArg (fun x => codes x n) (brow_eq m c t r))

theorem finalS : (dats m 0 c).arrAt 9 cfg0.N = resS (m ((c : Thread nD τ).loc main_arg0)) := by
  refine (dats m 0 c).arrAt_eq_of_covers 9 _ (by decide +kernel) fun t hf y => ?_
  obtain ⟨r, n, rfl⟩ : ∃ (r : Fin 256) (n : Fin 64), y = ix2 r n := ⟨y 0, y 1, eq_ix2 y⟩
  have e : ((cfg0.win 9).blk t).view.emb (ix2 r n) = ix2 (grow t r) n := by blk_ext [idx t, grow]
  rw [e]
  blk_simp
  rw [after0_9]
  exact (outS_at _ r (small_at m c hx t r) n).trans (congrArg (fun x => scales x n) (brow_eq m c t r))

omit hx

/-! ## The run -/

/-- The kernel ends, if its activations are small enough, with its results at these functions of its arguments, and its arguments unchanged. -/
theorem run (hx : ∀ c r, Small (xrow (m (((c : Dev nD).tc : Thread nD τ).loc main_arg0)) r)) : θ_run defs (onTc (τ := τ) (main (F := Ideal))) ⟨m, fun _ => 0, ρ⟩ fun r => ∀ c : Dev nD,
      r.2.mem ((c.tc : Thread nD τ).loc main_v3_0) = resQ (m ((c : Thread nD τ).loc main_arg0)) (m ((c : Thread nD τ).loc main_arg1))
        (m ((c : Thread nD τ).loc main_arg2)) (m ((c : Thread nD τ).loc main_arg3))
      ∧ r.2.mem ((c.tc : Thread nD τ).loc main_v3_1) = resKv (m ((c : Thread nD τ).loc main_arg0)) (m ((c : Thread nD τ).loc main_arg1))
        (m ((c : Thread nD τ).loc main_arg2)) (m ((c : Thread nD τ).loc main_arg4))
      ∧ r.2.mem ((c.tc : Thread nD τ).loc main_v3_2) = resPe (m ((c : Thread nD τ).loc main_arg0)) (m ((c : Thread nD τ).loc main_arg1))
        (m ((c : Thread nD τ).loc main_arg2))
      ∧ r.2.mem ((c.tc : Thread nD τ).loc main_v3_3) = resC (m ((c : Thread nD τ).loc main_arg0))
      ∧ r.2.mem ((c.tc : Thread nD τ).loc main_v3_4) = resS (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h.1 c).1 5).trans (finalQ m c (hx c)), ((h.1 c).1 6).trans (finalKv m c (hx c)), ((h.1 c).1 7).trans (finalPe m c (hx c)),
      ((h.1 c).1 8).trans (finalC m c (hx c)), ((h.1 c).1 9).trans (finalS m c (hx c)), h.2.1 c⟩)
    (θ_run_and (run_main m ρ) (frame m ρ))

end Cert.KernelIdeal.Hand

end
-- ==== Proof.ReferenceIdealAt.lean ====
module

public import proofs.«01_k».proof.Proof.Gen.ReferenceIdeal.Frame
public import proofs.«01_k».proof.Proof.Spec
public import Idealize.ShloMosaic.Lib.Pointwise

@[expose] public section

set_option maxRecDepth 16384

/-!
# The reference read element by element

Each value the reference computes, at an index, from the blocks it reads.
-/

noncomputable section

namespace Cert.ReferenceIdeal.Hand

open Cert.ReferenceIdeal Cert.ReferenceIdeal.Gen
open Idealize.ShloMosaic Cert.Spec Idealize.ShloMosaic.TcCoe Idealize.SL.Sem

/-- The groups of the activations. -/
theorem group_at (x : Vec Ideal S3072x8192 .bf16) (r : Fin 3072) (g : Fin 64) (l : Fin 128) :
    k0_pay1 x (ix3 r g l) = x (ix2 r ⟨g.val * 128 + l.val, by omega⟩) := by
  pointwise [k0_pay1]

/-- The largest absolute value of each group. -/
def maxOf (y : FVec Ideal S3072x64x128 .f32) : FVec Ideal S3072x64 .f32 :=
  multiReduction .maximumf [2] S3072x64 (absf y) 0xFF800000#32 reduces_S3072x64x128_S3072x64 (.inl rfl) rfl

theorem maxOf_at (y : FVec Ideal S3072x64x128 .f32) (r : Fin 3072) (g : Fin 64) : maxOf y (ix2 r g) = top fun l => y (ix3 r g l) := by
  pointwise [maxOf]
  rfl

/-- The exponent from the largest values `a` of the groups. -/
def expOf (a : FVec Ideal S3072x64 .f32) : FVec Ideal S3072x64 .f32 :=
  select (cmpf .oeq a (broadcast S3072x64 (Scalar.ofBits .f32 0x00000000#32))) (broadcast S3072x64 (Scalar.ofBits .f32 0x00000000#32))
    (addf (floor (divf (log (mulf a (broadcast S3072x64 (Scalar.ofBits .f32 0x3B124925#32))))
        (log (broadcast S3072x64 (Scalar.ofBits .f32 0x40000000#32)))))
      (broadcast S3072x64 (Scalar.ofBits .f32 0x3F800000#32)))

theorem expOf_at (a : FVec Ideal S3072x64 .f32) (r : Fin 3072) (g : Fin 64) :
    expOf a (ix2 r g) = expo (a (ix2 r g) * Ideal.ofBits .f32 0x3B124925#32) := by
  have z : (a (ix2 r g) * Ideal.ofBits .f32 0x3B124925#32 = 0) ↔ a (ix2 r g) = 0 := by
    rw [mul_eq_zero, or_iff_left inv_ne]
  unfold expo
  simp only [z]
  pointwise [expOf]

theorem expOf_maxOf_at (y : FVec Ideal S3072x64x128 .f32) (r : Fin 3072) (g : Fin 64) :
    expOf (maxOf y) (ix2 r g) = expo (ratio fun l => y (ix3 r g l)) :=
  (expOf_at _ r g).trans (congrArg (fun t => expo (t * Ideal.ofBits .f32 0x3B124925#32)) (maxOf_at y r g))

theorem exponent_eq (x : Vec Ideal S3072x8192 .bf16) : k0_pay2 x = expOf (maxOf (k0_pay1 x)) := rfl

/-- The codes from the groups and their factors. -/
def codeOf (y : FVec Ideal S3072x64x128 .f32) (z : FVec Ideal S3072x64 .f32) : FVec Ideal S3072x8192 .fp8e4m3 :=
  shapeCast S3072x8192 (truncf .fp8e4m3 (minimumf (broadcast S3072x64x128 (Scalar.ofBits .f32 0x43E00000#32))
    (maximumf (broadcast S3072x64x128 (Scalar.ofBits .f32 0xC3E00000#32))
      (mulf y (broadcastTo S3072x64x128 (shapeCast S3072x64x1 z shapeCasts_S3072x64_S3072x64x1) broadcasts_S3072x64x1_S3072x64x128))))
    bitsLt_fp8e4m3_f32) shapeCasts_S3072x64x128_S3072x8192

theorem codeOf_at (y : FVec Ideal S3072x64x128 .f32) (z : FVec Ideal S3072x64 .f32) (r : Fin 3072) (k : Fin 8192) :
    codeOf y z (ix2 r k) = code (z (ix2 r (gOf k))) (y (ix3 r (gOf k) ⟨k.val % 128, by omega⟩)) := by
  pointwise [codeOf]
  rfl

theorem down_at (e : FVec Ideal S3072x64 .f32) (r : Fin 3072) (g : Fin 64) :
    exp2 (subf (broadcast S3072x64 (Scalar.ofBits .f32 0x00000000#32)) e) (ix2 r g) =
      FloatOps.exp2 (F := Ideal) (φ := .f32) (0 - e (ix2 r g)) := by
  pointwise

theorem up_at (e : FVec Ideal S3072x64 .f32) (r : Fin 3072) (g : Fin 64) :
    exp2 e (ix2 r g) = FloatOps.exp2 (F := Ideal) (φ := .f32) (e (ix2 r g)) := by
  pointwise

theorem code_eq (x : Vec Ideal S3072x8192 .bf16) :
    k0_pay4 x = codeOf (k0_pay1 x) (exp2 (subf (broadcast S3072x64 (Scalar.ofBits .f32 0x00000000#32)) (k0_pay2 x))) := rfl

theorem scale_eq (x : Vec Ideal S3072x8192 .bf16) : k0_pay3 x = exp2 (k0_pay2 x) := rfl

/-- The activations scaled back. -/
theorem deq_at (x : Vec Ideal S3072x8192 .bf16) (r : Fin 3072) (k : Fin 8192) :
    k0_pay5 x (ix2 r k) = k0_pay4 x (ix2 r k) * k0_pay3 x (ix2 r ⟨k.val / 128, by omega⟩) := by
  pointwise [k0_pay5]

/-- The scales of the weights, spread over their blocks. -/
theorem wscale_at (s : Vec Ideal S17x64 .f32) (n : Fin 2112) (k : Fin 8192) :
    k0_pay6 s (ix2 n k) = s (ix2 ⟨n.val / 128, by omega⟩ ⟨k.val / 128, by omega⟩) := by
  pointwise [k0_pay6]

/-- The product. -/
theorem dot_at (a : FVec Ideal S3072x8192 .bf16) (b : FVec Ideal S2112x8192 .bf16) (w : Vec Ideal S2112x8192 .fp8e4m3)
    (r : Fin 3072) (n : Fin 2112) :
    k0_pay7 a b w (ix2 r n) = ∑ k : Fin 8192, a (ix2 r k) * (w (ix2 n k) * b (ix2 n k)) := by
  pointwise [k0_pay7]

/-- The normalised query columns. -/
theorem q_at (a : FVec Ideal S3072x8192 .bf16) (b : FVec Ideal S2112x8192 .bf16) (w : Vec Ideal S2112x8192 .fp8e4m3)
    (y : Vec Ideal S1x1536 .bf16) (r : Fin 3072) (n : Fin 1536) :
    k0_pay8 a b w y (ix2 r n) = k0_pay7 a b w (ix2 r ⟨n.val, by omega⟩) *
      Ideal.rsqrt (Ideal.div (∑ j : Fin 1536, k0_pay7 a b w (ix2 r ⟨j.val, by omega⟩) * k0_pay7 a b w (ix2 r ⟨j.val, by omega⟩))
        (Ideal.ofBits .f32 0x44C00000#32) + Ideal.ofBits .f32 0x358637BD#32) * y (ix2 0 n) := by
  pointwise [k0_pay8]

/-- The normalised key and value columns. -/
theorem kv_at (a : FVec Ideal S3072x8192 .bf16) (b : FVec Ideal S2112x8192 .bf16) (w : Vec Ideal S2112x8192 .fp8e4m3)
    (y : Vec Ideal S1x512 .bf16) (r : Fin 3072) (n : Fin 512) :
    k0_pay9 a b w y (ix2 r n) = k0_pay7 a b w (ix2 r ⟨1536 + n.val, by omega⟩) *
      Ideal.rsqrt (Ideal.div (∑ j : Fin 512, k0_pay7 a b w (ix2 r ⟨1536 + j.val, by omega⟩) * k0_pay7 a b w (ix2 r ⟨1536 + j.val, by omega⟩))
        (Ideal.ofBits .f32 0x44000000#32) + Ideal.ofBits .f32 0x358637BD#32) * y (ix2 0 n) := by
  pointwise [k0_pay9]

/-- The last columns, not normalised. -/
theorem pe_at (a : FVec Ideal S3072x8192 .bf16) (b : FVec Ideal S2112x8192 .bf16) (w : Vec Ideal S2112x8192 .fp8e4m3)
    (r : Fin 3072) (n : Fin 64) :
    k0_pay10 a b w (ix2 r n) = k0_pay7 a b w (ix2 r ⟨2048 + n.val, by omega⟩) := by
  pointwise [k0_pay10]

/-! ## The results, row by row -/

/-- A row of the activations. -/
def row (x : Vec Ideal S3072x8192 .bf16) (r : Fin 3072) : Fin 8192 → EReal := fun k => x (ix2 r k)

theorem exponent_at (x : Vec Ideal S3072x8192 .bf16) (r : Fin 3072) (g : Fin 64) :
    k0_pay2 x (ix2 r g) = expo (ratio (grp (row x r) g)) := by
  rw [exponent_eq, expOf_maxOf_at]
  exact congrArg (fun v => expo (ratio v)) (funext fun l => group_at x r g l)

theorem scale_at (x : Vec Ideal S3072x8192 .bf16) (r : Fin 3072) (g : Fin 64) : k0_pay3 x (ix2 r g) = scales (row x r) g := by
  rw [scale_eq, up_at, exponent_at]
  rfl

theorem code_at (x : Vec Ideal S3072x8192 .bf16) (r : Fin 3072) (k : Fin 8192) : k0_pay4 x (ix2 r k) = codes (row x r) k := by
  rw [code_eq, codeOf_at, down_at, exponent_at, group_at]
  have e : (⟨(gOf k).val * 128 + k.val % 128, by have := k.isLt; simp only [gOf]; omega⟩ : Fin 8192) = k := by
    apply Fin.ext; simp only [gOf]; omega
  exact congrArg (fun i => code (down (ratio (grp (row x r) (gOf k)))) (x (ix2 r i))) e

theorem proj_at (x : Vec Ideal S3072x8192 .bf16) (w : Vec Ideal S2112x8192 .fp8e4m3) (s : Vec Ideal S17x64 .f32) (r : Fin 3072)
    (n : Fin 2112) :
    k0_pay7 (k0_pay5 x) (k0_pay6 s) w (ix2 r n) = proj (row x r) (fun n k => w (ix2 n k)) (fun i g => s (ix2 i g)) n := by
  rw [dot_at]
  refine Finset.sum_congr rfl fun k _ => ?_
  rw [deq_at, wscale_at, code_at, scale_at]
  rfl

end Cert.ReferenceIdeal.Hand

end
-- ==== Proof.ReferenceIdealRun.lean ====
module

public import proofs.«01_k».proof.Proof.Gen.ReferenceIdeal.Frame
public import proofs.«01_k».proof.Proof.ReferenceIdealAt
public import proofs.«01_k».proof.Proof.Results
public import Idealize.ShloMosaic.Lib.Claim
public import Idealize.ShloMosaic.Lib.Pipeline.ValueKit

@[expose] public section

/-!
# The reference's result arrays

The reference's grid has one point, which reads and writes whole arrays.
-/

set_option maxRecDepth 16384

noncomputable section

namespace Cert.ReferenceIdeal.Hand

open Cert.ReferenceIdeal Cert.ReferenceIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] := by decide +kernel

theorem x_at (t : Fin cfg0.N) (r : Fin 3072) (k : Fin 8192) :
    iblk m c 0 t (ix2 r k) = m ((c : Thread nD τ).loc main_arg0) (ix3 0 r k) := by
  blk_ext! [iblk, V, idx t]

theorem w_at (t : Fin cfg0.N) (n : Fin 2112) (k : Fin 8192) :
    iblk m c 1 t (ix2 n k) = m ((c : Thread nD τ).loc main_arg1) (ix2 n k) := by
  blk_ext! [iblk, V, idx t]

theorem s_at (t : Fin cfg0.N) (b : Fin 17) (i : Fin 64) :
    iblk m c 2 t (ix2 b i) = m ((c : Thread nD τ).loc main_arg2) (ix2 b i) := by
  blk_ext! [iblk, V, idx t]

theorem a_at (t : Fin cfg0.N) (j : Fin 1536) :
    iblk m c 3 t (ix2 0 j) = m ((c : Thread nD τ).loc main_arg3) (ix1 j) := by
  blk_ext! [iblk, V, idx t]

theorem b_at (t : Fin cfg0.N) (j : Fin 512) :
    iblk m c 4 t (ix2 0 j) = m ((c : Thread nD τ).loc main_arg4) (ix1 j) := by
  blk_ext! [iblk, V, idx t]

/-! ## The operands, row by row -/

theorem row_eq (t : Fin cfg0.N) (r : Fin 3072) : row (iblk m c 0 t) r = xrow (m ((c : Thread nD τ).loc main_arg0)) r :=
  funext fun k => x_at m c t r k

/-- The body reads its whole first operand. -/
theorem rounded_eq (x0 : Vec Ideal S3072x8192 .bf16) (x1 : Vec Ideal S2112x8192 .fp8e4m3) (x2 : Vec Ideal S17x64 .f32)
    (x3 : Vec Ideal S1x1536 .bf16) (x4 : Vec Ideal S1x512 .bf16) : k0_pay11 x0 x1 x2 x3 x4 = k0_pay5 x0 :=
  congrArg k0_pay5 (View.ld_unit_zero (by funext a; fin_cases a <;> rfl) _ _)

/-- The body reads its whole third operand. -/
theorem weights_eq (x0 : Vec Ideal S3072x8192 .bf16) (x1 : Vec Ideal S2112x8192 .fp8e4m3) (x2 : Vec Ideal S17x64 .f32)
    (x3 : Vec Ideal S1x1536 .bf16) (x4 : Vec Ideal S1x512 .bf16) : k0_pay12 x0 x1 x2 x3 x4 = k0_pay6 x2 :=
  congrArg k0_pay6 (View.ld_unit_zero (by funext a; fin_cases a <;> rfl) _ _)

theorem prow_eq (t : Fin cfg0.N) (r : Fin 3072) (n : Fin 2112) :
    k0_pay7 (k0_pay11 (iblk m c 0 t) (iblk m c 1 t) (iblk m c 2 t) (iblk m c 3 t) (iblk m c 4 t))
      (k0_pay12 (iblk m c 0 t) (iblk m c 1 t) (iblk m c 2 t) (iblk m c 3 t) (iblk m c 4 t)) (iblk m c 1 t) (ix2 r n)
      = prow (m ((c : Thread nD τ).loc main_arg0)) (m ((c : Thread nD τ).loc main_arg1)) (m ((c : Thread nD τ).loc main_arg2)) r n := by
  have hw : (fun (n : Fin 2112) (k : Fin 8192) => iblk m c 1 t (ix2 n k)) = fun n k => m ((c : Thread nD τ).loc main_arg1) (ix2 n k) :=
    funext fun n => funext fun k => w_at m c t n k
  have hs : (fun (b : Fin 17) (i : Fin 64) => iblk m c 2 t (ix2 b i)) = fun b i => m ((c : Thread nD τ).loc main_arg2) (ix2 b i) :=
    funext fun b => funext fun i => s_at m c t b i
  rw [rounded_eq, weights_eq, proj_at, row_eq, hw, hs]
  rfl

/-! ## The results -/

theorem finalQ : (dats m 0 c).arrAt 5 cfg0.N = resQ (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨r, n, rfl⟩ : ∃ (r : Fin 3072) (n : Fin 1536), y = ix2 r n := ⟨y 0, y 1, eq_ix2 y⟩
  have e : ((cfg0.win 5).blk t).view.emb (ix2 r n) = ix2 r n := by blk_ext [idx t]
  rw [e]
  blk_simp
  rw [after0_5]
  frame_out
  refine (q_at _ _ _ _ r n).trans ?_
  simp only [prow_eq, a_at]
  rfl

theorem finalKv : (dats m 0 c).arrAt 6 cfg0.N = resKv (m ((c : Thread nD τ).loc main_arg0)) (m ((c : Thread nD τ).loc main_arg1))
    (m ((c : Thread nD τ).loc main_arg2)) (m ((c : Thread nD τ).loc main_arg4)) := by
  refine (dats m 0 c).arrAt_eq_of_covers 6 _ (by decide +kernel) fun t hf y => ?_
  obtain ⟨r, n, rfl⟩ : ∃ (r : Fin 3072) (n : Fin 512), y = ix2 r n := ⟨y 0, y 1, eq_ix2 y⟩
  have e : ((cfg0.win 6).blk t).view.emb (ix2 r n) = ix2 r n := by blk_ext [idx t]
  rw [e]
  blk_simp
  rw [after0_6]
  frame_out
  refine (kv_at _ _ _ _ r n).trans ?_
  simp only [prow_eq, b_at]
  rfl

theorem finalPe : (dats m 0 c).arrAt 7 cfg0.N = resPe (m ((c : Thread nD τ).loc main_arg0)) (m ((c : Thread nD τ).loc main_arg1))
    (m ((c : Thread nD τ).loc main_arg2)) := by
  refine (dats m 0 c).arrAt_eq_of_covers 7 _ (by decide +kernel) fun t hf y => ?_
  obtain ⟨r, n, rfl⟩ : ∃ (r : Fin 3072) (n : Fin 64), y = ix2 r n := ⟨y 0, y 1, eq_ix2 y⟩
  have e : ((cfg0.win 7).blk t).view.emb (ix2 r n) = ix2 r n := by blk_ext [idx t]
  rw [e]
  blk_simp
  rw [after0_7]
  frame_out
  exact (pe_at _ _ _ r n).trans (prow_eq m c t r _)

theorem finalC : (dats m 0 c).arrAt 8 cfg0.N = resC (m ((c : Thread nD τ).loc main_arg0)) := by
  refine (dats m 0 c).arrAt_eq_of_covers 8 _ (by decide +kernel) fun t hf y => ?_
  obtain ⟨r, n, rfl⟩ : ∃ (r : Fin 3072) (n : Fin 8192), y = ix2 r n := ⟨y 0, y 1, eq_ix2 y⟩
  have e : ((cfg0.win 8).blk t).view.emb (ix2 r n) = ix2 r n := by blk_ext [idx t]
  rw [e]
  blk_simp
  rw [after0_8]
  frame_out
  exact (code_at _ r n).trans (congrArg (fun x => codes x n) (row_eq m c t r))

theorem finalS : (dats m 0 c).arrAt 9 cfg0.N = resS (m ((c : Thread nD τ).loc main_arg0)) := by
  refine (dats m 0 c).arrAt_eq_of_covers 9 _ (by decide +kernel) fun t hf y => ?_
  obtain ⟨r, n, rfl⟩ : ∃ (r : Fin 3072) (n : Fin 64), y = ix2 r n := ⟨y 0, y 1, eq_ix2 y⟩
  have e : ((cfg0.win 9).blk t).view.emb (ix2 r n) = ix2 r n := by blk_ext [idx t]
  rw [e]
  blk_simp
  rw [after0_9]
  frame_out
  exact (scale_at _ r n).trans (congrArg (fun x => scales x n) (row_eq m c t r))

/-! ## The run -/

/-- The reference ends with its results at these functions of its arguments, and its arguments unchanged. -/
theorem run : θ_run defs (onTc (τ := τ) (main (F := Ideal))) ⟨m, fun _ => 0, ρ⟩ fun r => ∀ c : Dev nD,
      r.2.mem ((c.tc : Thread nD τ).loc main_v3_0) = resQ (m ((c : Thread nD τ).loc main_arg0)) (m ((c : Thread nD τ).loc main_arg1))
        (m ((c : Thread nD τ).loc main_arg2)) (m ((c : Thread nD τ).loc main_arg3))
      ∧ r.2.mem ((c.tc : Thread nD τ).loc main_v3_1) = resKv (m ((c : Thread nD τ).loc main_arg0)) (m ((c : Thread nD τ).loc main_arg1))
        (m ((c : Thread nD τ).loc main_arg2)) (m ((c : Thread nD τ).loc main_arg4))
      ∧ r.2.mem ((c.tc : Thread nD τ).loc main_v3_2) = resPe (m ((c : Thread nD τ).loc main_arg0)) (m ((c : Thread nD τ).loc main_arg1))
        (m ((c : Thread nD τ).loc main_arg2))
      ∧ r.2.mem ((c.tc : Thread nD τ).loc main_v3_3) = resC (m ((c : Thread nD τ).loc main_arg0))
      ∧ r.2.mem ((c.tc : Thread nD τ).loc main_v3_4) = resS (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h.1 c).1 5).trans (finalQ m c), ((h.1 c).1 6).trans (finalKv m c), ((h.1 c).1 7).trans (finalPe m c),
      ((h.1 c).1 8).trans (finalC m c), ((h.1 c).1 9).trans (finalS m c), h.2.1 c⟩)
    (θ_run_and (run_main m ρ) (frame m ρ))

end Cert.ReferenceIdeal.Hand

end
-- ==== Proof.Precondition.lean ====
module

public import proofs.«01_k».proof.Defs
public import proofs.«01_k».proof.Proof.Exponent
public import Idealize.ShloMosaic.Lib.ReduceAll

@[expose] public section

/-!
# The precondition

The largest absolute value of every group is at most the largest bfloat16, and it is zero or, over the largest code, at least the least
normal number.  So over the largest code it is below `2 ^ 120`, and the exponent of its scale is one the kernel finds in an exponent field.
-/

set_option maxRecDepth 16384

noncomputable section

namespace Cert.Spec

open Idealize.ShloMosaic

/-- The shapes of the precondition's operations. -/
theorem in_range_facts : Cert.Pre_in_range.Facts where
  bitsLt_bf16_f32 := by decide
  shapeCasts_S1x3072x8192_S3072x64x128 := by decide
  reducesTo_S3072x64x128_S3072x64_d2 := by decide
  h_S_ := by decide
  bcast_S_S3072x64 := by decide
  reducesTo_S3072x64_S_d0_1 := by decide

theorem largest_lt : Ideal.ofBits .f32 0x7F7F0000#32 ≤ (((2 : ℝ) ^ (128 : ℤ) : ℝ) : EReal) := by
  have e : Ideal.ofBits .f32 0x7F7F0000#32 = ((16711680 * (2 : ℝ) ^ 104 : ℝ) : EReal) := by simp [Ideal.ofBits, Ideal.ieee]
  rw [e, EReal.coe_le_coe_iff]
  norm_num

/-- A group whose largest absolute value is at most the largest bfloat16 is below the bound. -/
theorem ratio_lt (v : Fin 128 → EReal) (h : top v ≤ Ideal.ofBits .f32 0x7F7F0000#32) : ratio v < (((2 : ℝ) ^ (120 : ℤ) : ℝ) : EReal) := by
  obtain ⟨c, hc, h0, h1⟩ := inv_eq
  unfold ratio
  rw [hc]
  refine lt_of_le_of_lt (mul_le_mul_of_nonneg_right (h.trans largest_lt) (EReal.coe_nonneg.2 h0.le)) ?_
  rw [← EReal.coe_mul, EReal.coe_lt_coe_iff]
  calc (2 : ℝ) ^ (128 : ℤ) * c < (2 : ℝ) ^ (128 : ℤ) * (2 : ℝ) ^ (-8 : ℤ) := mul_lt_mul_of_pos_left h1 (by positivity)
    _ = (2 : ℝ) ^ (120 : ℤ) := by norm_num

/-- A group that is all zeros or normal over the largest code, and finite, has an exponent the search finds. -/
theorem fine_of (v : Fin 128 → EReal) (h : top v ≤ Ideal.ofBits .f32 0x7F7F0000#32)
    (h' : top v = 0 ∨ Ideal.ofBits .f32 0x00800000#32 ≤ ratio v) : Fine (ratio v) :=
  ⟨h'.imp_left fun e => by unfold ratio; rw [e, zero_mul], ratio_lt v h⟩

theorem and_one : ∀ a b : BitVec 1, IntOp.andi a b = 1#1 → a = 1#1 ∧ b = 1#1 := by decide
theorem or_one : ∀ a b : BitVec 1, IntOp.ori a b = 1#1 → a = 1#1 ∨ b = 1#1 := by decide

theorem of_ofBool (p : Prop) [Decidable p] (h : BitVec.ofBool (decide p) = 1#1) : p := by
  by_contra q
  rw [decide_eq_false q] at h
  exact absurd h (by decide)

section

variable [Cert.Pre_in_range.Facts]

open Cert.Pre_in_range Cert.Pre_in_range.Facts

/-- The largest absolute value of each group. -/
def tops (x : FVec Ideal S1x3072x8192 .bf16) : FVec Ideal S3072x64 .f32 :=
  Host.reduce (FloatOps.maximumf (F := Ideal) (φ := .f32))
    (shapeCast S3072x64x128 (Host.absf (extf .f32 x bitsLt_bf16_f32)) shapeCasts_S1x3072x8192_S3072x64x128)
    (constant S_ .f32 0xFF800000#32) reducesTo_S3072x64x128_S3072x64_d2 h_S_

theorem tops_at (x : FVec Ideal S1x3072x8192 .bf16) (r : Fin 3072) (g : Fin 64) : tops x (ix2 r g) = top (grp (fun k => x (ix3 0 r k)) g) := by
  pointwise [tops]
  rfl

/-- What is asked of each. -/
def asked (a : FVec Ideal S3072x64 .f32) : IVec S3072x64 1 :=
  andi (cmpf .ole a (broadcastInDim S3072x64 ![] bcast_S_S3072x64 (constant S_ .f32 0x7F7F0000#32)))
    (ori (cmpf .oeq a (broadcastInDim S3072x64 ![] bcast_S_S3072x64 (constant S_ .f32 0x00000000#32)))
      (cmpf .oge (mulf a (broadcastInDim S3072x64 ![] bcast_S_S3072x64 (constant S_ .f32 0x3B124925#32)))
        (broadcastInDim S3072x64 ![] bcast_S_S3072x64 (constant S_ .f32 0x00800000#32))))

theorem of_asked (a : FVec Ideal S3072x64 .f32) (i : S3072x64.Idx) (h : asked a i = 1#1) :
    a i ≤ Ideal.ofBits .f32 0x7F7F0000#32
      ∧ (a i = 0 ∨ Ideal.ofBits .f32 0x00800000#32 ≤ a i * Ideal.ofBits .f32 0x3B124925#32) := by
  obtain ⟨p, q⟩ := and_one _ _ h
  have z : Ideal.ofBits .f32 0x00000000#32 = 0 := by simp [Ideal.ofBits, Ideal.ieee]
  exact ⟨of_ofBool _ p, (or_one _ _ q).imp (fun q => (of_ofBool _ q).trans z) fun q => of_ofBool _ q⟩

theorem fn_eq (x : FVec Ideal S1x3072x8192 .bf16) (w : FVec Ideal S2112x8192 .fp8e4m3) (s : FVec Ideal S17x64 .f32)
    (a : FVec Ideal S1536 .bf16) (b : FVec Ideal S512 .bf16) :
    fn (F := Ideal) x w s a b = Host.reduce IntOp.andi (asked (tops x)) (constantI S_ 1 1#1) reducesTo_S3072x64_S_d0_1 h_S_ := rfl

/-- What the precondition says of a group of activations. -/
theorem in_range_at (x : FVec Ideal S1x3072x8192 .bf16) (w : FVec Ideal S2112x8192 .fp8e4m3) (s : FVec Ideal S17x64 .f32)
    (a : FVec Ideal S1536 .bf16) (b : FVec Ideal S512 .bf16) (h : fn (F := Ideal) x w s a b = fun _ => 1#1) (r : Fin 3072) (g : Fin 64) :
    Fine (ratio (grp (fun k => x (ix3 0 r k)) g)) := by
  have : Subsingleton S_.Idx := ⟨fun a b => funext fun k => k.elim0⟩
  let j : S_.Idx := fun k => k.elim0
  rw [fn_eq] at h
  obtain ⟨p, q⟩ := of_asked _ _ (Host.reduce_andi_all _ _ _ _ j (congrFun h j) (ix2 r g))
  rw [tops_at] at p q
  exact fine_of _ p q

end

end Cert.Spec

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelBody
public import proofs.«01_k».proof.Proof.KernelIdealRun
public import proofs.«01_k».proof.Proof.ReferenceIdealRun
public import proofs.«01_k».proof.Proof.Precondition

@[expose] public section

/-!
# The claims

The frames, `preserves`, and the value claim: under the precondition the kernel and the reference end with the same five
results over the extended reals.
-/

noncomputable section

namespace Cert.Proof

open Idealize.ShloMosaic Idealize.SL.Sem

theorem frame_kernel : Cert.quiescent_Kernel (hKernel := Cert.Kernel.Gen.facts) :=
  fun m ρ _ => Cert.Kernel.Hand.frame m ρ

theorem frame_kernelIdeal : Cert.quiescent_KernelIdeal (hKernelIdeal := Cert.KernelIdeal.Gen.facts) :=
  fun m ρ _ => Cert.KernelIdeal.Hand.frame m ρ

theorem frame_kernelIdeal_in_range :
    Cert.quiescent_KernelIdeal_pre_in_range (hKernelIdeal := Cert.KernelIdeal.Gen.facts) (hPre_in_range := Cert.Spec.in_range_facts) :=
  fun m ρ _ => Cert.KernelIdeal.Hand.frame m ρ

theorem frame_referenceIdeal : Cert.quiescent_ReferenceIdeal (hReferenceIdeal := Cert.ReferenceIdeal.Gen.facts) :=
  fun m ρ _ => Cert.ReferenceIdeal.Gen.frame m ρ

theorem frame_referenceIdeal_in_range :
    Cert.quiescent_ReferenceIdeal_pre_in_range (hReferenceIdeal := Cert.ReferenceIdeal.Gen.facts) (hPre_in_range := Cert.Spec.in_range_facts) :=
  fun m ρ _ => Cert.ReferenceIdeal.Gen.frame m ρ

theorem preserves : Cert.preserves_Kernel_KernelIdeal := trivial

/-- Under the precondition every group of activations is one whose exponent the search finds. -/
theorem small (m : (ℓ : Loc Cert.KernelIdeal.nD Cert.KernelIdeal.τ Cert.KernelIdeal.sig) → Buf (Elt Ideal) ℓ)
    (h : Cert.Pre_KernelIdeal_in_range (hPre_in_range := Cert.Spec.in_range_facts) m) (c : Dev Cert.KernelIdeal.nD) (r : Fin 3072) :
    Cert.KernelIdeal.Hand.Small (Cert.Spec.xrow
      (m ((c.tc : Thread Cert.KernelIdeal.nD Cert.KernelIdeal.τ).loc Cert.KernelIdeal.main_arg0)) r) :=
  have := Cert.Spec.in_range_facts
  fun g => Cert.Spec.in_range_at _ _ _ _ _ (h c) r g

/-- Both programs end with the five results at the same functions of the arguments. -/
theorem algebraic : Cert.algebraic_KernelIdeal_ReferenceIdeal_pre_in_range (hKernelIdeal := Cert.KernelIdeal.Gen.facts)
    (hReferenceIdeal := Cert.ReferenceIdeal.Gen.facts) (hPre_in_range := Cert.Spec.in_range_facts) := by
  intro m ρ m' ρ' hpre hagree
  refine ⟨fun c => Cert.Spec.resQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.resKv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.Spec.resPe (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.resC (m ((c.tc : Thread Cert.KernelIdeal.nD Cert.KernelIdeal.τ).loc Cert.KernelIdeal.main_arg0)),
    fun c => Cert.Spec.resS (m ((c.tc : Thread Cert.KernelIdeal.nD Cert.KernelIdeal.τ).loc Cert.KernelIdeal.main_arg0)),
    Cert.KernelIdeal.Hand.run m ρ (small m hpre), ?_⟩
  refine (θ_run Cert.ReferenceIdeal.defs _ _).mono (fun _ h c => ?_) (Cert.ReferenceIdeal.Hand.run m' ρ')
  obtain ⟨h0, h1, h2, h3, h4⟩ := hagree c
  have hc := h c
  rw [h0, h1, h2, h3, h4] at hc
  rw [h0, h1, h2, h3, h4]
  exact hc

theorem claim : Cert.Claim :=
  ⟨Cert.Kernel.Gen.facts, Cert.KernelIdeal.Gen.facts, Cert.ReferenceIdeal.Gen.facts, Cert.Spec.in_range_facts,
    frame_kernel, frame_kernelIdeal, frame_kernelIdeal_in_range, frame_referenceIdeal, frame_referenceIdeal_in_range, preserves, algebraic⟩

end Cert.Proof

end
